-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_v133) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v19_0)) (v1 : (c : Dev Cert.Kernel3Ideal.nD) → Buf (Elt Ideal) ((c.tc : Thread Cert.Kernel3Ideal.nD Cert.Kernel3Ideal.τ).loc Cert.Kernel3Ideal.main_v19_1)) (v2 : (c : Dev Cert.Kernel3Ideal.nD) → Buf (Elt Ideal) ((c.tc : Thread Cert.Kernel3Ideal.nD Cert.Kernel3Ideal.τ).loc Cert.Kernel3Ideal.main_v19_2)) (v3 : (c : Dev Cert.Kernel3Ideal.nD) → Buf (Elt Ideal) ((c.tc : Thread Cert.Kernel3Ideal.nD Cert.Kernel3Ideal.τ).loc Cert.Kernel3Ideal.main_v19_3)) (v4 : (c : Dev Cert.Kernel3Ideal.nD) → Buf (Elt Ideal) ((c.tc : Thread Cert.Kernel3Ideal.nD Cert.Kernel3Ideal.τ).loc Cert.Kernel3Ideal.main_v19_4)) (v5 : (c : Dev Cert.Kernel3Ideal.nD) → Buf (Elt Ideal) ((c.tc : Thread Cert.Kernel3Ideal.nD Cert.Kernel3Ideal.τ).loc Cert.Kernel3Ideal.main_v19_5)) (v6 : (c : Dev Cert.Kernel3Ideal.nD) → Buf (Elt Ideal) ((c.tc : Thread Cert.Kernel3Ideal.nD Cert.Kernel3Ideal.τ).loc Cert.Kernel3Ideal.main_v19_6)) (v7 : (c : Dev Cert.Kernel3Ideal.nD) → Buf (Elt Ideal) ((c.tc : Thread Cert.Kernel3Ideal.nD Cert.Kernel3Ideal.τ).loc Cert.Kernel3Ideal.main_v19_7)) (v8 : (c : Dev Cert.Kernel3Ideal.nD) → Buf (Elt Ideal) ((c.tc : Thread Cert.Kernel3Ideal.nD Cert.Kernel3Ideal.τ).loc Cert.Kernel3Ideal.main_v19_8)) (v9 : (c : Dev Cert.Kernel3Ideal.nD) → Buf (Elt Ideal) ((c.tc : Thread Cert.Kernel3Ideal.nD Cert.Kernel3Ideal.τ).loc Cert.Kernel3Ideal.main_v19_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_0) = v0 c
          ∧ r.2.mem ((c.tc : Thread Cert.Kernel3Ideal.nD Cert.Kernel3Ideal.τ).loc Cert.Kernel3Ideal.main_v19_1) = v1 c
          ∧ r.2.mem ((c.tc : Thread Cert.Kernel3Ideal.nD Cert.Kernel3Ideal.τ).loc Cert.Kernel3Ideal.main_v19_2) = v2 c
          ∧ r.2.mem ((c.tc : Thread Cert.Kernel3Ideal.nD Cert.Kernel3Ideal.τ).loc Cert.Kernel3Ideal.main_v19_3) = v3 c
          ∧ r.2.mem ((c.tc : Thread Cert.Kernel3Ideal.nD Cert.Kernel3Ideal.τ).loc Cert.Kernel3Ideal.main_v19_4) = v4 c
          ∧ r.2.mem ((c.tc : Thread Cert.Kernel3Ideal.nD Cert.Kernel3Ideal.τ).loc Cert.Kernel3Ideal.main_v19_5) = v5 c
          ∧ r.2.mem ((c.tc : Thread Cert.Kernel3Ideal.nD Cert.Kernel3Ideal.τ).loc Cert.Kernel3Ideal.main_v19_6) = v6 c
          ∧ r.2.mem ((c.tc : Thread Cert.Kernel3Ideal.nD Cert.Kernel3Ideal.τ).loc Cert.Kernel3Ideal.main_v19_7) = v7 c
          ∧ r.2.mem ((c.tc : Thread Cert.Kernel3Ideal.nD Cert.Kernel3Ideal.τ).loc Cert.Kernel3Ideal.main_v19_8) = v8 c
          ∧ r.2.mem ((c.tc : Thread Cert.Kernel3Ideal.nD Cert.Kernel3Ideal.τ).loc Cert.Kernel3Ideal.main_v19_9) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_v41) = v2 c
          ∧ r.2.mem ((c.tc : Thread Cert.Reference3Ideal.nD Cert.Reference3Ideal.τ).loc Cert.Reference3Ideal.main_v18) = v3 c
          ∧ r.2.mem ((c.tc : Thread Cert.Reference3Ideal.nD Cert.Reference3Ideal.τ).loc Cert.Reference3Ideal.main_v19) = v4 c
          ∧ r.2.mem ((c.tc : Thread Cert.Reference3Ideal.nD Cert.Reference3Ideal.τ).loc Cert.Reference3Ideal.main_v58) = v5 c
          ∧ r.2.mem ((c.tc : Thread Cert.Reference3Ideal.nD Cert.Reference3Ideal.τ).loc Cert.Reference3Ideal.main_v21) = v6 c
          ∧ r.2.mem ((c.tc : Thread Cert.Reference3Ideal.nD Cert.Reference3Ideal.τ).loc Cert.Reference3Ideal.main_v75) = v7 c
          ∧ r.2.mem ((c.tc : Thread Cert.Reference3Ideal.nD Cert.Reference3Ideal.τ).loc Cert.Reference3Ideal.main_v23) = v8 c
          ∧ r.2.mem ((c.tc : Thread Cert.Reference3Ideal.nD Cert.Reference3Ideal.τ).loc Cert.Reference3Ideal.main_v81) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v231_0)) (v1 : (c : Dev Cert.Kernel4Ideal.nD) → Buf (Elt Ideal) ((c.tc : Thread Cert.Kernel4Ideal.nD Cert.Kernel4Ideal.τ).loc Cert.Kernel4Ideal.main_v231_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v231_0) = v0 c
          ∧ r.2.mem ((c.tc : Thread Cert.Kernel4Ideal.nD Cert.Kernel4Ideal.τ).loc Cert.Kernel4Ideal.main_v231_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S128x512 : Shape := ⟨2, ![128, 512]⟩
abbrev S32x512x128 : Shape := ⟨3, ![32, 512, 128]⟩
abbrev S128x128 : Shape := ⟨2, ![128, 128]⟩
abbrev S32x512 : Shape := ⟨2, ![32, 512]⟩
abbrev S32x128 : Shape := ⟨2, ![32, 128]⟩
abbrev S512x256 : Shape := ⟨2, ![512, 256]⟩
abbrev S2x2 : Shape := ⟨2, ![2, 2]⟩
abbrev S_ : Shape := ⟨0, ![]⟩
abbrev S1x1x2x1x2x1 : Shape := ⟨6, ![1, 1, 2, 1, 2, 1]⟩
abbrev S32x4x4x2x64 : Shape := ⟨5, ![32, 4, 4, 2, 64]⟩
abbrev S32x4x2x4x64 : Shape := ⟨5, ![32, 4, 2, 4, 64]⟩
abbrev S32x4x2x4x1x64 : Shape := ⟨6, ![32, 4, 2, 4, 1, 64]⟩
abbrev S32x4x2x4x2x64 : Shape := ⟨6, ![32, 4, 2, 4, 2, 64]⟩
abbrev S32x32x128 : Shape := ⟨3, ![32, 32, 128]⟩
abbrev S32x4x128 : Shape := ⟨3, ![32, 4, 128]⟩
abbrev S32x128x128 : Shape := ⟨3, ![32, 128, 128]⟩
abbrev S32x8x256 : Shape := ⟨3, ![32, 8, 256]⟩
abbrev S1x32x128 : Shape := ⟨3, ![1, 32, 128]⟩
abbrev S1x512x128 : Shape := ⟨3, ![1, 512, 128]⟩
abbrev S1x128x128 : Shape := ⟨3, ![1, 128, 128]⟩
abbrev S1x8x256 : Shape := ⟨3, ![1, 8, 256]⟩
abbrev S512x128 : Shape := ⟨2, ![512, 128]⟩
abbrev S32 : Shape := ⟨1, ![32]⟩
abbrev S32x1 : Shape := ⟨2, ![32, 1]⟩
abbrev S8x512 : Shape := ⟨2, ![8, 512]⟩
abbrev S8x256 : Shape := ⟨2, ![8, 256]⟩
abbrev S8x1 : Shape := ⟨2, ![8, 1]⟩

abbrev nBuf : Space → Nat
  | .hbm => 37
  | .vmem => 24
  | .smem => 0
  | _ => 0

abbrev bufTy : (tb : Table) → Fin (tcTables nBuf tb) → BufTy
  | .hbm, ⟨0, _⟩ => ⟨S128x512, .bf16⟩
  | .hbm, ⟨1, _⟩ => ⟨S32x512x128, .f32⟩
  | .hbm, ⟨2, _⟩ => ⟨S32x512x128, .f32⟩
  | .hbm, ⟨3, _⟩ => ⟨S32x512x128, .f32⟩
  | .hbm, ⟨4, _⟩ => ⟨S32x512x128, .f32⟩
  | .hbm, ⟨5, _⟩ => ⟨S128x128, .f32⟩
  | .hbm, ⟨6, _⟩ => ⟨S128x128, .f32⟩
  | .hbm, ⟨7, _⟩ => ⟨S32x512, .f32⟩
  | .hbm, ⟨8, _⟩ => ⟨S32x512, .f32⟩
  | .hbm, ⟨9, _⟩ => ⟨S32x128, .f32⟩
  | .hbm, ⟨10, _⟩ => ⟨S512x256, .bf16⟩
  | .hbm, ⟨11, _⟩ => ⟨S2x2, .i32⟩
  | .hbm, ⟨12, _⟩ => ⟨S2x2, .i32⟩
  | .hbm, ⟨13, _⟩ => ⟨S_, .i32⟩
  | .hbm, ⟨14, _⟩ => ⟨S2x2, .i32⟩
  | .hbm, ⟨15, _⟩ => ⟨S2x2, .i32⟩
  | .hbm, ⟨16, _⟩ => ⟨S2x2, .i1⟩
  | .hbm, ⟨17, _⟩ => ⟨S2x2, .bf16⟩
  | .hbm, ⟨18, _⟩ => ⟨S1x1x2x1x2x1, .bf16⟩
  | .hbm, ⟨19, _⟩ => ⟨S32x4x4x2x64, .bf16⟩
  | .hbm, ⟨20, _⟩ => ⟨S32x4x2x4x64, .bf16⟩
  | .hbm, ⟨21, _⟩ => ⟨S32x4x2x4x1x64, .bf16⟩
  | .hbm, ⟨22, _⟩ => ⟨S32x4x2x4x2x64, .bf16⟩
  | .hbm, ⟨23, _⟩ => ⟨S32x4x2x4x2x64, .bf16⟩
  | .hbm, ⟨24, _⟩ => ⟨S32x4x2x4x2x64, .bf16⟩
  | .hbm, ⟨25, _⟩ => ⟨S32x32x128, .bf16⟩
  | .hbm, ⟨26, _⟩ => ⟨S32x4x128, .f32⟩
  | .hbm, ⟨27, _⟩ => ⟨S_, .i32⟩
  | .hbm, ⟨28, _⟩ => ⟨S_, .f32⟩
  | .hbm, ⟨29, _⟩ => ⟨S32x128x128, .f32⟩
  | .hbm, ⟨30, _⟩ => ⟨S32x4x128, .f32⟩
  | .hbm, ⟨31, _⟩ => ⟨S_, .i32⟩
  | .hbm, ⟨32, _⟩ => ⟨S_, .f32⟩
  | .hbm, ⟨33, _⟩ => ⟨S32x128x128, .f32⟩
  | .hbm, ⟨34, _⟩ => ⟨S32x32x128, .f32⟩
  | .hbm, ⟨35, _⟩ => ⟨S32x32x128, .f32⟩
  | .hbm, ⟨36, _⟩ => ⟨S32x8x256, .f32⟩
  | .local _ .vmem, ⟨0, _⟩ => ⟨S1x32x128, .bf16⟩
  | .local _ .vmem, ⟨1, _⟩ => ⟨S1x32x128, .bf16⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S32x512, .f32⟩
  | .local _ .vmem, ⟨15, _⟩ => ⟨S32x512, .f32⟩
  | .local _ .vmem, ⟨16, _⟩ => ⟨S32x128, .f32⟩
  | .local _ .vmem, ⟨17, _⟩ => ⟨S512x256, .bf16⟩
  | .local _ .vmem, ⟨18, _⟩ => ⟨S1x32x128, .f32⟩
  | .local _ .vmem, ⟨19, _⟩ => ⟨S1x32x128, .f32⟩
  | .local _ .vmem, ⟨20, _⟩ => ⟨S1x32x128, .f32⟩
  | .local _ .vmem, ⟨21, _⟩ => ⟨S1x32x128, .f32⟩
  | .local _ .vmem, ⟨22, _⟩ => ⟨S1x8x256, .f32⟩
  | .local _ .vmem, ⟨23, _⟩ => ⟨S1x8x256, .f32⟩
  | _, _ => ⟨S128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_call0_v0 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_call1_v0 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev main_v18_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x32x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S128x512 : Shape := ⟨2, ![128, 512]⟩
abbrev S32x512x128 : Shape := ⟨3, ![32, 512, 128]⟩
abbrev S128x128 : Shape := ⟨2, ![128, 128]⟩
abbrev S32x512 : Shape := ⟨2, ![32, 512]⟩
abbrev S32x128 : Shape := ⟨2, ![32, 128]⟩
abbrev S512x256 : Shape := ⟨2, ![512, 256]⟩
abbrev S32x4x4x2x64 : Shape := ⟨5, ![32, 4, 4, 2, 64]⟩
abbrev S4 : Shape := ⟨1, ![4]⟩
abbrev S_ : Shape := ⟨0, ![]⟩
abbrev S32x512x2x64 : Shape := ⟨4, ![32, 512, 2, 64]⟩
abbrev S32x511x2x64 : Shape := ⟨4, ![32, 511, 2, 64]⟩
abbrev S511 : Shape := ⟨1, ![511]⟩
abbrev S4x1 : Shape := ⟨2, ![4, 1]⟩
abbrev S1x511 : Shape := ⟨2, ![1, 511]⟩
abbrev S4x511 : Shape := ⟨2, ![4, 511]⟩
abbrev S32x2x511x4x4 : Shape := ⟨5, ![32, 2, 511, 4, 4]⟩
abbrev S32x4x2x4x511 : Shape := ⟨5, ![32, 4, 2, 4, 511]⟩
abbrev S32x511 : Shape := ⟨2, ![32, 511]⟩
abbrev S4x2x4x511 : Shape := ⟨4, ![4, 2, 4, 511]⟩
abbrev S1x4x2x4x511 : Shape := ⟨5, ![1, 4, 2, 4, 511]⟩
abbrev S32x4x2x4 : Shape := ⟨4, ![32, 4, 2, 4]⟩
abbrev S32x4x2x4x1 : Shape := ⟨5, ![32, 4, 2, 4, 1]⟩
abbrev S32x4x2x4x2x64 : Shape := ⟨6, ![32, 4, 2, 4, 2, 64]⟩
abbrev S511x129 : Shape := ⟨2, ![511, 129]⟩
abbrev S32x2x4x511 : Shape := ⟨4, ![32, 2, 4, 511]⟩
abbrev S32x2x4x129 : Shape := ⟨4, ![32, 2, 4, 129]⟩
abbrev S129 : Shape := ⟨1, ![129]⟩
abbrev S1x129 : Shape := ⟨2, ![1, 129]⟩
abbrev S4x129 : Shape := ⟨2, ![4, 129]⟩
abbrev S32x2x4x16 : Shape := ⟨4, ![32, 2, 4, 16]⟩
abbrev S256 : Shape := ⟨1, ![256]⟩
abbrev S32x2x4x16x1 : Shape := ⟨5, ![32, 2, 4, 16, 1]⟩
abbrev S1x1x1x1x256 : Shape := ⟨5, ![1, 1, 1, 1, 256]⟩
abbrev S32x2x4x16x256 : Shape := ⟨5, ![32, 2, 4, 16, 256]⟩
abbrev S32x2x4x256 : Shape := ⟨4, ![32, 2, 4, 256]⟩
abbrev S32x4x2x64 : Shape := ⟨4, ![32, 4, 2, 64]⟩
abbrev S32x516x2x64 : Shape := ⟨4, ![32, 516, 2, 64]⟩
abbrev S516 : Shape := ⟨1, ![516]⟩
abbrev S1x516 : Shape := ⟨2, ![1, 516]⟩
abbrev S4x516 : Shape := ⟨2, ![4, 516]⟩
abbrev S32x2x516x4x4 : Shape := ⟨5, ![32, 2, 516, 4, 4]⟩
abbrev S32x4x2x4x516 : Shape := ⟨5, ![32, 4, 2, 4, 516]⟩
abbrev S32x4 : Shape := ⟨2, ![32, 4]⟩
abbrev S32x516 : Shape := ⟨2, ![32, 516]⟩
abbrev S4x2x4x516 : Shape := ⟨4, ![4, 2, 4, 516]⟩
abbrev S1x4x2x4x516 : Shape := ⟨5, ![1, 4, 2, 4, 516]⟩
abbrev S32x32x128 : Shape := ⟨3, ![32, 32, 128]⟩
abbrev S32x8x256 : Shape := ⟨3, ![32, 8, 256]⟩

abbrev nBuf : Space → Nat
  | .hbm => 215
  | .vmem => 0
  | .smem => 0
  | _ => 0

abbrev hbmTy0_0 (i : Nat) : BufTy := match i % 128 with
  | 0 => ⟨S128x512, .bf16⟩
  | 1 => ⟨S32x512x128, .f32⟩
  | 2 => ⟨S32x512x128, .f32⟩
  | 3 => ⟨S32x512x128, .f32⟩
  | 4 => ⟨S32x512x128, .f32⟩
  | 5 => ⟨S128x128, .f32⟩
  | 6 => ⟨S128x128, .f32⟩
  | 7 => ⟨S32x512, .f32⟩
  | 8 => ⟨S32x512, .f32⟩
  | 9 => ⟨S32x128, .f32⟩
  | 10 => ⟨S512x256, .bf16⟩
  | 11 => ⟨S128x512, .f32⟩
  | 12 => ⟨S32x4x4x2x64, .f32⟩
  | 13 => ⟨S4, .i32⟩
  | 14 => ⟨S_, .i32⟩
  | 15 => ⟨S4, .i32⟩
  | 16 => ⟨S4, .i32⟩
  | 17 => ⟨S32x512x2x64, .f32⟩
  | 18 => ⟨S32x511x2x64, .f32⟩
  | 19 => ⟨S32x512x2x64, .f32⟩
  | 20 => ⟨S32x511x2x64, .f32⟩
  | 21 => ⟨S511, .i32⟩
  | 22 => ⟨S_, .i32⟩
  | 23 => ⟨S511, .i32⟩
  | 24 => ⟨S511, .i32⟩
  | 25 => ⟨S_, .i32⟩
  | 26 => ⟨S511, .i32⟩
  | 27 => ⟨S511, .i32⟩
  | 28 => ⟨S4x1, .i32⟩
  | 29 => ⟨S1x511, .i32⟩
  | 30 => ⟨S4x511, .i32⟩
  | 31 => ⟨S4x511, .i32⟩
  | 32 => ⟨S4x511, .i32⟩
  | 33 => ⟨S32x2x511x4x4, .f32⟩
  | 34 => ⟨S32x4x2x4x511, .f32⟩
  | 35 => ⟨S_, .f32⟩
  | 36 => ⟨S32x4x2x4x511, .f32⟩
  | 37 => ⟨S32x4x2x4x511, .f32⟩
  | 38 => ⟨S32x511, .f32⟩
  | 39 => ⟨S4x2x4x511, .f32⟩
  | 40 => ⟨S1x4x2x4x511, .f32⟩
  | 41 => ⟨S32x4x2x4x511, .f32⟩
  | 42 => ⟨S32x4x2x4x511, .f32⟩
  | 43 => ⟨S_, .i32⟩
  | 44 => ⟨S4x511, .i32⟩
  | 45 => ⟨S4x511, .i1⟩
  | 46 => ⟨S_, .f32⟩
  | 47 => ⟨S_, .f32⟩
  | 48 => ⟨S32x4x2x4x511, .i1⟩
  | 49 => ⟨S32x4x2x4x511, .f32⟩
  | 50 => ⟨S32x4x2x4x511, .f32⟩
  | 51 => ⟨S_, .f32⟩
  | 52 => ⟨S32x4x2x4, .f32⟩
  | 53 => ⟨S32x4x2x4x1, .f32⟩
  | 54 => ⟨S32x4x2x4x511, .f32⟩
  | 55 => ⟨S32x4x2x4x511, .f32⟩
  | 56 => ⟨S32x4x2x4x511, .f32⟩
  | 57 => ⟨S_, .f32⟩
  | 58 => ⟨S_, .f32⟩
  | 59 => ⟨S32x4x2x4x511, .i1⟩
  | 60 => ⟨S32x4x2x4x511, .f32⟩
  | 61 => ⟨S32x4x2x4x511, .f32⟩
  | 62 => ⟨S_, .f32⟩
  | 63 => ⟨S32x4x2x4, .f32⟩
  | 64 => ⟨S32x4x2x4x1, .f32⟩
  | 65 => ⟨S_, .f32⟩
  | 66 => ⟨S32x4x2x4x1, .f32⟩
  | 67 => ⟨S32x4x2x4x1, .i1⟩
  | 68 => ⟨S_, .f32⟩
  | 69 => ⟨S_, .f32⟩
  | 70 => ⟨S32x4x2x4x1, .f32⟩
  | 71 => ⟨S32x4x2x4x1, .f32⟩
  | 72 => ⟨S32x4x2x4x511, .f32⟩
  | 73 => ⟨S32x4x2x4x511, .f32⟩
  | 74 => ⟨S32x4x2x4x2x64, .f32⟩
  | 75 => ⟨S511x129, .bf16⟩
  | 76 => ⟨S511x129, .f32⟩
  | 77 => ⟨S_, .f32⟩
  | 78 => ⟨S32x2x4x511, .f32⟩
  | 79 => ⟨S32x2x4x129, .f32⟩
  | 80 => ⟨S129, .i32⟩
  | 81 => ⟨S1x129, .i32⟩
  | 82 => ⟨S_, .i32⟩
  | 83 => ⟨S_, .i32⟩
  | 84 => ⟨S4, .i32⟩
  | 85 => ⟨S4, .i32⟩
  | 86 => ⟨S4, .i32⟩
  | 87 => ⟨S_, .i32⟩
  | 88 => ⟨S4, .i32⟩
  | 89 => ⟨S4, .i1⟩
  | 90 => ⟨S4, .i32⟩
  | 91 => ⟨S4, .i32⟩
  | 92 => ⟨S_, .i32⟩
  | 93 => ⟨S4, .i32⟩
  | 94 => ⟨S4, .i1⟩
  | 95 => ⟨S4, .i1⟩
  | 96 => ⟨S_, .i32⟩
  | 97 => ⟨S4, .i32⟩
  | 98 => ⟨S4, .i32⟩
  | 99 => ⟨S4, .i32⟩
  | 100 => ⟨S4x1, .i32⟩
  | 101 => ⟨S_, .i32⟩
  | 102 => ⟨S1x129, .i32⟩
  | 103 => ⟨S1x129, .i1⟩
  | 104 => ⟨S4x129, .i32⟩
  | 105 => ⟨S4x129, .i32⟩
  | 106 => ⟨S4x129, .i1⟩
  | 107 => ⟨S4x129, .i1⟩
  | 108 => ⟨S4x129, .i1⟩
  | 109 => ⟨S_, .i32⟩
  | 110 => ⟨S4x1, .i32⟩
  | 111 => ⟨S4x1, .i32⟩
  | 112 => ⟨S4x129, .i32⟩
  | 113 => ⟨S4x129, .i32⟩
  | 114 => ⟨S4x129, .i1⟩
  | 115 => ⟨S4x129, .i1⟩
  | 116 => ⟨S_, .i32⟩
  | 117 => ⟨S1x129, .i32⟩
  | 118 => ⟨S1x129, .i32⟩
  | 119 => ⟨S4x1, .i32⟩
  | 120 => ⟨S4x129, .i32⟩
  | 121 => ⟨S4x129, .i32⟩
  | 122 => ⟨S4x129, .i1⟩
  | 123 => ⟨S_, .f32⟩
  | 124 => ⟨S_, .f32⟩
  | 125 => ⟨S32x2x4x129, .i1⟩
  | 126 => ⟨S32x2x4x129, .f32⟩
  | 127 => ⟨S32x2x4x129, .f32⟩
  | _ => ⟨S128x512, .bf16⟩

abbrev hbmTy0_1 (i : Nat) : BufTy := match i % 128 with
  | 0 => ⟨S_, .f32⟩
  | 1 => ⟨S_, .f32⟩
  | 2 => ⟨S32x2x4x129, .i1⟩
  | 3 => ⟨S32x2x4x129, .f32⟩
  | 4 => ⟨S32x2x4x129, .f32⟩
  | 5 => ⟨S32x2x4x16, .f32⟩
  | 6 => ⟨S32x2x4x16, .i32⟩
  | 7 => ⟨S256, .i32⟩
  | 8 => ⟨S32x2x4x16x1, .i32⟩
  | 9 => ⟨S1x1x1x1x256, .i32⟩
  | 10 => ⟨S32x2x4x16x256, .i32⟩
  | 11 => ⟨S32x2x4x16x256, .i32⟩
  | 12 => ⟨S32x2x4x16x256, .i1⟩
  | 13 => ⟨S_, .i1⟩
  | 14 => ⟨S32x2x4x256, .i1⟩
  | 15 => ⟨S32x2x4x256, .f32⟩
  | 16 => ⟨S32x512x2x64, .f32⟩
  | 17 => ⟨S32x4x2x64, .f32⟩
  | 18 => ⟨S32x516x2x64, .f32⟩
  | 19 => ⟨S32x512x2x64, .f32⟩
  | 20 => ⟨S32x4x2x64, .f32⟩
  | 21 => ⟨S32x516x2x64, .f32⟩
  | 22 => ⟨S516, .i32⟩
  | 23 => ⟨S_, .i32⟩
  | 24 => ⟨S516, .i32⟩
  | 25 => ⟨S516, .i32⟩
  | 26 => ⟨S4x1, .i32⟩
  | 27 => ⟨S1x516, .i32⟩
  | 28 => ⟨S4x516, .i32⟩
  | 29 => ⟨S4x516, .i32⟩
  | 30 => ⟨S4x516, .i32⟩
  | 31 => ⟨S_, .i32⟩
  | 32 => ⟨S4x516, .i32⟩
  | 33 => ⟨S4x516, .i1⟩
  | 34 => ⟨S_, .i32⟩
  | 35 => ⟨S4x516, .i32⟩
  | 36 => ⟨S4x516, .i1⟩
  | 37 => ⟨S4x516, .i1⟩
  | 38 => ⟨S_, .i32⟩
  | 39 => ⟨S516, .i32⟩
  | 40 => ⟨S516, .i1⟩
  | 41 => ⟨S1x516, .i1⟩
  | 42 => ⟨S4x516, .i1⟩
  | 43 => ⟨S4x516, .i1⟩
  | 44 => ⟨S32x2x516x4x4, .f32⟩
  | 45 => ⟨S32x4x2x4x516, .f32⟩
  | 46 => ⟨S_, .f32⟩
  | 47 => ⟨S32x4x2x4x516, .f32⟩
  | 48 => ⟨S32x4x2x4x516, .f32⟩
  | 49 => ⟨S32x4, .f32⟩
  | 50 => ⟨S32x516, .f32⟩
  | 51 => ⟨S4x2x4x516, .f32⟩
  | 52 => ⟨S1x4x2x4x516, .f32⟩
  | 53 => ⟨S32x4x2x4x516, .f32⟩
  | 54 => ⟨S32x4x2x4x516, .f32⟩
  | 55 => ⟨S_, .f32⟩
  | 56 => ⟨S_, .f32⟩
  | 57 => ⟨S32x4x2x4x516, .i1⟩
  | 58 => ⟨S32x4x2x4x516, .f32⟩
  | 59 => ⟨S32x4x2x4x516, .f32⟩
  | 60 => ⟨S_, .f32⟩
  | 61 => ⟨S32x4x2x4, .f32⟩
  | 62 => ⟨S32x4x2x4x1, .f32⟩
  | 63 => ⟨S32x4x2x4x516, .f32⟩
  | 64 => ⟨S32x4x2x4x516, .f32⟩
  | 65 => ⟨S32x4x2x4x516, .f32⟩
  | 66 => ⟨S_, .f32⟩
  | 67 => ⟨S_, .f32⟩
  | 68 => ⟨S32x4x2x4x516, .i1⟩
  | 69 => ⟨S32x4x2x4x516, .f32⟩
  | 70 => ⟨S32x4x2x4x516, .f32⟩
  | 71 => ⟨S_, .f32⟩
  | 72 => ⟨S32x4x2x4, .f32⟩
  | 73 => ⟨S32x4x2x4x1, .f32⟩
  | 74 => ⟨S_, .f32⟩
  | 75 => ⟨S32x4x2x4x1, .f32⟩
  | 76 => ⟨S32x4x2x4x1, .i1⟩
  | 77 => ⟨S_, .f32⟩
  | 78 => ⟨S_, .f32⟩
  | 79 => ⟨S32x4x2x4x1, .f32⟩
  | 80 => ⟨S32x4x2x4x1, .f32⟩
  | 81 => ⟨S32x4x2x4x516, .f32⟩
  | 82 => ⟨S32x4x2x4x516, .f32⟩
  | 83 => ⟨S32x4x2x4x2x64, .f32⟩
  | 84 => ⟨S32x32x128, .f32⟩
  | 85 => ⟨S32x32x128, .f32⟩
  | 86 => ⟨S32x8x256, .f32⟩
  | _ => ⟨S128x512, .bf16⟩

abbrev hbmTy (i : Nat) : BufTy := match i / 128 with
  | 0 => hbmTy0_0 i
  | 1 => hbmTy0_1 i
  | _ => ⟨S128x512, .bf16⟩

abbrev bufTy : (tb : Table) → Fin (tcTables nBuf tb) → BufTy
  | .hbm, ⟨i, _⟩ => hbmTy i
  | _, _ => ⟨S128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_call2_v0 : Ref sig .tc := ⟨.hbm, 69, rfl⟩
abbrev main_call2_v1 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_9 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_c : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_0 : Ref sig .tc := ⟨.hbm, 96, rfl⟩
abbrev main_call3_v12 : Ref sig .tc := ⟨.hbm, 97, rfl⟩
abbrev main_call3_v13 : Ref sig .tc := ⟨.hbm, 98, rfl⟩
abbrev main_v51 : Ref sig .tc := ⟨.hbm, 99, rfl⟩
abbrev main_v52 : Ref sig .tc := ⟨.hbm, 100, rfl⟩
abbrev main_c_11 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_c_12 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_c_13 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_14 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_v72 : Ref sig .tc := ⟨.hbm, 127, rfl⟩
abbrev main_cst_15 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_v73 : Ref sig .tc := ⟨.hbm, 132, rfl⟩
abbrev main_values : Ref sig .tc := ⟨.hbm, 133, rfl⟩
abbrev main_indices : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_c_16 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_c_17 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_c_18 : Ref sig .tc := ⟨.hbm, 159, rfl⟩
abbrev main_v96 : Ref sig .tc := ⟨.hbm, 160, rfl⟩
abbrev main_v97 : Ref sig .tc := ⟨.hbm, 161, rfl⟩
abbrev main_c_19 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_c_20 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_cst_21 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_cst_22 : Ref sig .tc := ⟨.hbm, 183, rfl⟩
abbrev main_call6_v0 : Ref sig .tc := ⟨.hbm, 184, rfl⟩
abbrev main_call6_v1 : Ref sig .tc := ⟨.hbm, 185, rfl⟩
abbrev main_call6_v2 : Ref sig .tc := ⟨.hbm, 186, rfl⟩
abbrev main_v116 : Ref sig .tc := ⟨.hbm, 187, rfl⟩
abbrev main_cst_23 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_cst_24 : Ref sig .tc := ⟨.hbm, 194, rfl⟩
abbrev main_call7_v0 : Ref sig .tc := ⟨.hbm, 195, rfl⟩
abbrev main_call7_v1 : Ref sig .tc := ⟨.hbm, 196, rfl⟩
abbrev main_call7_v2 : Ref sig .tc := ⟨.hbm, 197, rfl⟩
abbrev main_v122 : Ref sig .tc := ⟨.hbm, 198, rfl⟩
abbrev main_cst_25 : Ref sig .tc := ⟨.hbm, 199, rfl⟩
abbrev main_v123 : Ref sig .tc := ⟨.hbm, 200, rfl⟩
abbrev main_v124 : Ref sig .tc := ⟨.hbm, 201, rfl⟩
abbrev main_cst_26 : Ref sig .tc := ⟨.hbm, 202, rfl⟩
abbrev main_v125 : Ref sig .tc := ⟨.hbm, 203, rfl⟩
abbrev main_v126 : Ref sig .tc := ⟨.hbm, 204, rfl⟩
abbrev main_cst_27 : Ref sig .tc := ⟨.hbm, 205, rfl⟩
abbrev main_call8_v0 : Ref sig .tc := ⟨.hbm, 206, rfl⟩
abbrev main_call8_v1 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S3x512 : Shape := ⟨2, ![3, 512]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x512 : Shape := ⟨2, ![8, 512]⟩
abbrev S1x512 : Shape := ⟨2, ![1, 512]⟩
abbrev S1x1024 : Shape := ⟨2, ![1, 1024]⟩
abbrev S1024x11x256 : Shape := ⟨3, ![1024, 11, 256]⟩
abbrev S11x1024x256 : Shape := ⟨3, ![11, 1024, 256]⟩
abbrev S11x256x1024 : Shape := ⟨3, ![11, 256, 1024]⟩
abbrev S8x2048x512 : Shape := ⟨3, ![8, 2048, 512]⟩
abbrev S8x2x512 : Shape := ⟨3, ![8, 2, 512]⟩
abbrev S8x2050x512 : Shape := ⟨3, ![8, 2050, 512]⟩
abbrev S512x1024 : Shape := ⟨2, ![512, 1024]⟩
abbrev S512x512 : Shape := ⟨2, ![512, 512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 36
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S3x512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S_, .i32⟩
  | .hbm, ⟨13, _⟩ => ⟨S_, .f32⟩
  | .hbm, ⟨14, _⟩ => ⟨S8x512, .f32⟩
  | .hbm, ⟨15, _⟩ => ⟨S1x512, .f32⟩
  | .hbm, ⟨16, _⟩ => ⟨S1x512, .f32⟩
  | .hbm, ⟨17, _⟩ => ⟨S1024x1024, .bf16⟩
  | .hbm, ⟨18, _⟩ => ⟨S1x1024, .f32⟩
  | .hbm, ⟨19, _⟩ => ⟨S1024x11x256, .f32⟩
  | .hbm, ⟨20, _⟩ => ⟨S11x1024x256, .f32⟩
  | .hbm, ⟨21, _⟩ => ⟨S11x1024x256, .bf16⟩
  | .hbm, ⟨22, _⟩ => ⟨S1024x11x256, .f32⟩
  | .hbm, ⟨23, _⟩ => ⟨S11x1024x256, .f32⟩
  | .hbm, ⟨24, _⟩ => ⟨S11x1024x256, .bf16⟩
  | .hbm, ⟨25, _⟩ => ⟨S11x256x1024, .f32⟩
  | .hbm, ⟨26, _⟩ => ⟨S11x256x1024, .bf16⟩
  | .hbm, ⟨27, _⟩ => ⟨S8x2048x512, .f32⟩
  | .hbm, ⟨28, _⟩ => ⟨S_, .f32⟩
  | .hbm, ⟨29, _⟩ => ⟨S8x2x512, .f32⟩
  | .hbm, ⟨30, _⟩ => ⟨S8x2050x512, .f32⟩
  | .hbm, ⟨31, _⟩ => ⟨S8x2048x512, .f32⟩
  | .hbm, ⟨32, _⟩ => ⟨S8x2048x512, .f32⟩
  | .hbm, ⟨33, _⟩ => ⟨S16384x512, .f32⟩
  | .hbm, ⟨34, _⟩ => ⟨S16384x512, .f32⟩
  | .hbm, ⟨35, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S8x512, .f32⟩
  | .local _ .vmem, ⟨13, _⟩ => ⟨S1x512, .f32⟩
  | .local _ .vmem, ⟨14, _⟩ => ⟨S1x512, .f32⟩
  | .local _ .vmem, ⟨15, _⟩ => ⟨S1024x1024, .bf16⟩
  | .local _ .vmem, ⟨16, _⟩ => ⟨S1x1024, .f32⟩
  | .local _ .vmem, ⟨17, _⟩ => ⟨S11x1024x256, .bf16⟩
  | .local _ .vmem, ⟨18, _⟩ => ⟨S11x1024x256, .bf16⟩
  | .local _ .vmem, ⟨19, _⟩ => ⟨S11x256x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S11x1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S11x1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S11x256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S16384x1024 : Shape := ⟨2, ![16384, 1024]⟩
abbrev S16384x512 : Shape := ⟨2, ![16384, 512]⟩
abbrev S3x512 : Shape := ⟨2, ![3, 512]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x2048x512 : Shape := ⟨3, ![8, 2048, 512]⟩
abbrev S_ : Shape := ⟨0, ![]⟩
abbrev S8x2x512 : Shape := ⟨3, ![8, 2, 512]⟩
abbrev S8x2050x512 : Shape := ⟨3, ![8, 2050, 512]⟩
abbrev S1x512 : Shape := ⟨2, ![1, 512]⟩
abbrev S1x1x512 : Shape := ⟨3, ![1, 1, 512]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 106
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S3x512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S8x2048x512, .f32⟩
  | .hbm, ⟨13, _⟩ => ⟨S_, .f32⟩
  | .hbm, ⟨14, _⟩ => ⟨S8x2x512, .f32⟩
  | .hbm, ⟨15, _⟩ => ⟨S8x2050x512, .f32⟩
  | .hbm, ⟨16, _⟩ => ⟨S8x2048x512, .f32⟩
  | .hbm, ⟨17, _⟩ => ⟨S1x512, .f32⟩
  | .hbm, ⟨18, _⟩ => ⟨S512, .f32⟩
  | .hbm, ⟨19, _⟩ => ⟨S1x1x512, .f32⟩
  | .hbm, ⟨20, _⟩ => ⟨S8x2048x512, .f32⟩
  | .hbm, ⟨21, _⟩ => ⟨S8x2048x512, .f32⟩
  | .hbm, ⟨22, _⟩ => ⟨S_, .f32⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S1x512, .f32⟩
  | .hbm, ⟨27, _⟩ => ⟨S512, .f32⟩
  | .hbm, ⟨28, _⟩ => ⟨S1x1x512, .f32⟩
  | .hbm, ⟨29, _⟩ => ⟨S8x2048x512, .f32⟩
  | .hbm, ⟨30, _⟩ => ⟨S8x2048x512, .f32⟩
  | .hbm, ⟨31, _⟩ => ⟨S8x2048x512, .f32⟩
  | .hbm, ⟨32, _⟩ => ⟨S8x2048x512, .f32⟩
  | .hbm, ⟨33, _⟩ => ⟨S1x512, .f32⟩
  | .hbm, ⟨34, _⟩ => ⟨S512, .f32⟩
  | .hbm, ⟨35, _⟩ => ⟨S1x1x512, .f32⟩
  | .hbm, ⟨36, _⟩ => ⟨S8x2048x512, .f32⟩
  | .hbm, ⟨37, _⟩ => ⟨S8x2048x512, .f32⟩
  | .hbm, ⟨38, _⟩ => ⟨S8x2048x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x512, .f32⟩
  | .hbm, ⟨53, _⟩ => ⟨S16384x512, .f32⟩
  | .hbm, ⟨54, _⟩ => ⟨S1x512, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x512, .f32⟩
  | .hbm, ⟨69, _⟩ => ⟨S16384x512, .f32⟩
  | .hbm, ⟨70, _⟩ => ⟨S1x512, .f32⟩
  | .hbm, ⟨71, _⟩ => ⟨S16384x512, .f32⟩
  | .hbm, ⟨72, _⟩ => ⟨S16384x512, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S16384x1, .f32⟩
  | .hbm, ⟨87, _⟩ => ⟨S16384x1024, .f32⟩
  | .hbm, ⟨88, _⟩ => ⟨S16384x1024, .f32⟩
  | .hbm, ⟨89, _⟩ => ⟨S1x1024, .f32⟩
  | .hbm, ⟨90, _⟩ => ⟨S16384x1024, .f32⟩
  | .hbm, ⟨91, _⟩ => ⟨S16384x1024, .f32⟩
  | .hbm, ⟨92, _⟩ => ⟨S16384x2816, .f32⟩
  | .hbm, ⟨93, _⟩ => ⟨S16384x2816, .f32⟩
  | .hbm, ⟨94, _⟩ => ⟨S16384x2816, .f32⟩
  | .hbm, ⟨95, _⟩ => ⟨S_, .f32⟩
  | .hbm, ⟨96, _⟩ => ⟨S16384x2816, .f32⟩
  | .hbm, ⟨97, _⟩ => ⟨S16384x2816, .f32⟩
  | .hbm, ⟨98, _⟩ => ⟨S_, .f32⟩
  | .hbm, ⟨99, _⟩ => ⟨S16384x2816, .f32⟩
  | .hbm, ⟨100, _⟩ => ⟨S16384x2816, .f32⟩
  | .hbm, ⟨101, _⟩ => ⟨S16384x2816, .f32⟩
  | .hbm, ⟨102, _⟩ => ⟨S16384x2816, .f32⟩
  | .hbm, ⟨103, _⟩ => ⟨S16384x2816, .f32⟩
  | .hbm, ⟨104, _⟩ => ⟨S16384x1024, .f32⟩
  | .hbm, ⟨105, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_7 : Ref sig .tc := ⟨.hbm, 77, rfl⟩
abbrev main_v57 : Ref sig .tc := ⟨.hbm, 78, rfl⟩
abbrev main_v58 : Ref sig .tc := ⟨.hbm, 79, rfl⟩
abbrev main_cst_8 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call0_v0 : Ref sig .tc := ⟨.hbm, 93, rfl⟩
abbrev main_call0_v1 : Ref sig .tc := ⟨.hbm, 94, rfl⟩
abbrev main_call0_cst : Ref sig .tc := ⟨.hbm, 95, rfl⟩
abbrev main_call0_v2 : Ref sig .tc := ⟨.hbm, 96, rfl⟩
abbrev main_call0_v3 : Ref sig .tc := ⟨.hbm, 97, rfl⟩
abbrev main_call0_cst_0 : Ref sig .tc := ⟨.hbm, 98, rfl⟩
abbrev main_call0_v4 : Ref sig .tc := ⟨.hbm, 99, rfl⟩
abbrev main_call0_v5 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x2944 : Shape := ⟨2, ![1024, 2944]⟩
abbrev S64 : Shape := ⟨1, ![64]⟩
abbrev S3x64 : Shape := ⟨2, ![3, 64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2x128 : Shape := ⟨2, ![2, 128]⟩
abbrev S1x1024 : Shape := ⟨2, ![1, 1024]⟩
abbrev S16384x512 : Shape := ⟨2, ![16384, 512]⟩
abbrev S16384x128 : Shape := ⟨2, ![16384, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S1024x128 : Shape := ⟨2, ![1024, 128]⟩

abbrev nBuf : Space → Nat
  | .hbm => 34
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2944, .f32⟩
  | .hbm, ⟨3, _⟩ => ⟨S64, .f32⟩
  | .hbm, ⟨4, _⟩ => ⟨S3x64, .f32⟩
  | .hbm, ⟨5, _⟩ => ⟨S1x64, .f32⟩
  | .hbm, ⟨6, _⟩ => ⟨S2x64, .f32⟩
  | .hbm, ⟨7, _⟩ => ⟨S128, .f32⟩
  | .hbm, ⟨8, _⟩ => ⟨S1x128, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S2x64, .f32⟩
  | .hbm, ⟨13, _⟩ => ⟨S128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S2x64, .f32⟩
  | .hbm, ⟨18, _⟩ => ⟨S128, .f32⟩
  | .hbm, ⟨19, _⟩ => ⟨S1x128, .f32⟩
  | .hbm, ⟨20, _⟩ => ⟨S1x128, .f32⟩
  | .hbm, ⟨21, _⟩ => ⟨S2x128, .f32⟩
  | .hbm, ⟨22, _⟩ => ⟨S1x1024, .f32⟩
  | .hbm, ⟨23, _⟩ => ⟨S1024x2944, .bf16⟩
  | .hbm, ⟨24, _⟩ => ⟨S16384x512, .f32⟩
  | .hbm, ⟨25, _⟩ => ⟨S16384x512, .f32⟩
  | .hbm, ⟨26, _⟩ => ⟨S16384x512, .bf16⟩
  | .hbm, ⟨27, _⟩ => ⟨S16384x128, .f32⟩
  | .hbm, ⟨28, _⟩ => ⟨S16384x128, .f32⟩
  | .hbm, ⟨29, _⟩ => ⟨S16384x128, .f32⟩
  | .hbm, ⟨30, _⟩ => ⟨S16384x128, .f32⟩
  | .hbm, ⟨31, _⟩ => ⟨S16384x128, .f32⟩
  | .hbm, ⟨32, _⟩ => ⟨S16384x128, .f32⟩
  | .hbm, ⟨33, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2944, .bf16⟩
  | .local _ .vmem, ⟨4, _⟩ => ⟨S1x128, .f32⟩
  | .local _ .vmem, ⟨5, _⟩ => ⟨S2x128, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev main_v19_2 : Ref sig .tc := ⟨.hbm, 26, rfl⟩
abbrev main_v19_3 : Ref sig .tc := ⟨.hbm, 27, rfl⟩
abbrev main_v19_4 : Ref sig .tc := ⟨.hbm, 28, rfl⟩
abbrev main_v19_5 : Ref sig .tc := ⟨.hbm, 29, rfl⟩
abbrev main_v19_6 : Ref sig .tc := ⟨.hbm, 30, rfl⟩
abbrev main_v19_7 : Ref sig .tc := ⟨.hbm, 31, rfl⟩
abbrev main_v19_8 : Ref sig .tc := ⟨.hbm, 32, rfl⟩
abbrev main_v19_9 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S16384x1024 : Shape := ⟨2, ![16384, 1024]⟩
abbrev S1024 : Shape := ⟨1, ![1024]⟩
abbrev S1024x2944 : Shape := ⟨2, ![1024, 2944]⟩
abbrev S64 : Shape := ⟨1, ![64]⟩
abbrev S3x64 : Shape := ⟨2, ![3, 64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2944 : Shape := ⟨2, ![16384, 2944]⟩
abbrev S16384x512 : Shape := ⟨2, ![16384, 512]⟩
abbrev S16384x128 : Shape := ⟨2, ![16384, 128]⟩
abbrev S16384x8x64 : Shape := ⟨3, ![16384, 8, 64]⟩
abbrev S16384x8 : Shape := ⟨2, ![16384, 8]⟩
abbrev S16384x8x1 : Shape := ⟨3, ![16384, 8, 1]⟩
abbrev S1x1x64 : Shape := ⟨3, ![1, 1, 64]⟩
abbrev S1x64 : Shape := ⟨2, ![1, 64]⟩
abbrev S16384x2x64 : Shape := ⟨3, ![16384, 2, 64]⟩
abbrev S16384x2 : Shape := ⟨2, ![16384, 2]⟩
abbrev S16384x2x1 : Shape := ⟨3, ![16384, 2, 1]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2944, .f32⟩
  | .hbm, ⟨3, _⟩ => ⟨S64, .f32⟩
  | .hbm, ⟨4, _⟩ => ⟨S3x64, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2944, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x128, .f32⟩
  | .hbm, ⟨27, _⟩ => ⟨S16384x128, .f32⟩
  | .hbm, ⟨28, _⟩ => ⟨S16384x128, .f32⟩
  | .hbm, ⟨29, _⟩ => ⟨S16384x128, .f32⟩
  | .hbm, ⟨30, _⟩ => ⟨S16384x128, .f32⟩
  | .hbm, ⟨31, _⟩ => ⟨S16384x128, .f32⟩
  | .hbm, ⟨32, _⟩ => ⟨S16384x128, .f32⟩
  | .hbm, ⟨33, _⟩ => ⟨S16384x512, .f32⟩
  | .hbm, ⟨34, _⟩ => ⟨S16384x8x64, .f32⟩
  | .hbm, ⟨35, _⟩ => ⟨S16384x8x64, .f32⟩
  | .hbm, ⟨36, _⟩ => ⟨S_, .f32⟩
  | .hbm, ⟨37, _⟩ => ⟨S16384x8, .f32⟩
  | .hbm, ⟨38, _⟩ => ⟨S16384x8x1, .f32⟩
  | .hbm, ⟨39, _⟩ => ⟨S_, .f32⟩
  | .hbm, ⟨40, _⟩ => ⟨S16384x8x1, .f32⟩
  | .hbm, ⟨41, _⟩ => ⟨S16384x8x1, .f32⟩
  | .hbm, ⟨42, _⟩ => ⟨S_, .f32⟩
  | .hbm, ⟨43, _⟩ => ⟨S16384x8x1, .f32⟩
  | .hbm, ⟨44, _⟩ => ⟨S16384x8x1, .f32⟩
  | .hbm, ⟨45, _⟩ => ⟨S16384x8x1, .f32⟩
  | .hbm, ⟨46, _⟩ => ⟨S16384x8x64, .f32⟩
  | .hbm, ⟨47, _⟩ => ⟨S16384x8x64, .f32⟩
  | .hbm, ⟨48, _⟩ => ⟨S1x1x64, .f32⟩
  | .hbm, ⟨49, _⟩ => ⟨S16384x8x64, .f32⟩
  | .hbm, ⟨50, _⟩ => ⟨S16384x8x64, .f32⟩
  | .hbm, ⟨51, _⟩ => ⟨S16384x512, .f32⟩
  | .hbm, ⟨52, _⟩ => ⟨S16384x512, .bf16⟩
  | .hbm, ⟨53, _⟩ => ⟨S1x64, .f32⟩
  | .hbm, ⟨54, _⟩ => ⟨S64, .f32⟩
  | .hbm, ⟨55, _⟩ => ⟨S16384x2x64, .f32⟩
  | .hbm, ⟨56, _⟩ => ⟨S16384x2x64, .f32⟩
  | .hbm, ⟨57, _⟩ => ⟨S_, .f32⟩
  | .hbm, ⟨58, _⟩ => ⟨S16384x2, .f32⟩
  | .hbm, ⟨59, _⟩ => ⟨S16384x2x1, .f32⟩
  | .hbm, ⟨60, _⟩ => ⟨S_, .f32⟩
  | .hbm, ⟨61, _⟩ => ⟨S16384x2x1, .f32⟩
  | .hbm, ⟨62, _⟩ => ⟨S16384x2x1, .f32⟩
  | .hbm, ⟨63, _⟩ => ⟨S_, .f32⟩
  | .hbm, ⟨64, _⟩ => ⟨S16384x2x1, .f32⟩
  | .hbm, ⟨65, _⟩ => ⟨S16384x2x1, .f32⟩
  | .hbm, ⟨66, _⟩ => ⟨S16384x2x1, .f32⟩
  | .hbm, ⟨67, _⟩ => ⟨S16384x2x64, .f32⟩
  | .hbm, ⟨68, _⟩ => ⟨S16384x2x64, .f32⟩
  | .hbm, ⟨69, _⟩ => ⟨S1x1x64, .f32⟩
  | .hbm, ⟨70, _⟩ => ⟨S16384x2x64, .f32⟩
  | .hbm, ⟨71, _⟩ => ⟨S16384x2x64, .f32⟩
  | .hbm, ⟨72, _⟩ => ⟨S16384x128, .f32⟩
  | .hbm, ⟨73, _⟩ => ⟨S1x64, .f32⟩
  | .hbm, ⟨74, _⟩ => ⟨S64, .f32⟩
  | .hbm, ⟨75, _⟩ => ⟨S16384x2x64, .f32⟩
  | .hbm, ⟨76, _⟩ => ⟨S16384x2x64, .f32⟩
  | .hbm, ⟨77, _⟩ => ⟨S_, .f32⟩
  | .hbm, ⟨78, _⟩ => ⟨S16384x2, .f32⟩
  | .hbm, ⟨79, _⟩ => ⟨S16384x2x1, .f32⟩
  | .hbm, ⟨80, _⟩ => ⟨S_, .f32⟩
  | .hbm, ⟨81, _⟩ => ⟨S16384x2x1, .f32⟩
  | .hbm, ⟨82, _⟩ => ⟨S16384x2x1, .f32⟩
  | .hbm, ⟨83, _⟩ => ⟨S_, .f32⟩
  | .hbm, ⟨84, _⟩ => ⟨S16384x2x1, .f32⟩
  | .hbm, ⟨85, _⟩ => ⟨S16384x2x1, .f32⟩
  | .hbm, ⟨86, _⟩ => ⟨S16384x2x1, .f32⟩
  | .hbm, ⟨87, _⟩ => ⟨S16384x2x64, .f32⟩
  | .hbm, ⟨88, _⟩ => ⟨S16384x2x64, .f32⟩
  | .hbm, ⟨89, _⟩ => ⟨S1x1x64, .f32⟩
  | .hbm, ⟨90, _⟩ => ⟨S16384x2x64, .f32⟩
  | .hbm, ⟨91, _⟩ => ⟨S16384x2x64, .f32⟩
  | .hbm, ⟨92, _⟩ => ⟨S16384x128, .f32⟩
  | .hbm, ⟨93, _⟩ => ⟨S16384x128, .f32⟩
  | .hbm, ⟨94, _⟩ => ⟨S16384x128, .f32⟩
  | .hbm, ⟨95, _⟩ => ⟨S_, .f32⟩
  | .hbm, ⟨96, _⟩ => ⟨S16384x128, .f32⟩
  | .hbm, ⟨97, _⟩ => ⟨S16384x128, .f32⟩
  | .hbm, ⟨98, _⟩ => ⟨S_, .f32⟩
  | .hbm, ⟨99, _⟩ => ⟨S16384x128, .f32⟩
  | .hbm, ⟨100, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_8 : Ref sig .tc := ⟨.hbm, 77, rfl⟩
abbrev main_v63 : Ref sig .tc := ⟨.hbm, 78, rfl⟩
abbrev main_v64 : Ref sig .tc := ⟨.hbm, 79, rfl⟩
abbrev main_cst_9 : Ref sig .tc := ⟨.hbm, 80, rfl⟩
abbrev main_v65 : Ref sig .tc := ⟨.hbm, 81, rfl⟩
abbrev main_v66 : Ref sig .tc := ⟨.hbm, 82, rfl⟩
abbrev main_cst_10 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_11 : Ref sig .tc := ⟨.hbm, 95, rfl⟩
abbrev main_v78 : Ref sig .tc := ⟨.hbm, 96, rfl⟩
abbrev main_v79 : Ref sig .tc := ⟨.hbm, 97, rfl⟩
abbrev main_cst_12 : Ref sig .tc := ⟨.hbm, 98, rfl⟩
abbrev main_v80 : Ref sig .tc := ⟨.hbm, 99, rfl⟩
abbrev main_v81 : Ref sig .tc := ⟨.hbm, 100, rfl⟩

abbrev nD : Nat := 1
abbrev τ : Topo := Topo.v7x

variable {F : FTy → Type} [FloatOps F]
-- ==== Kernel4.lean ====
abbrev S8x2048x128 : Shape := ⟨3, ![8, 2048, 128]⟩
abbrev S32x64x128 : Shape := ⟨3, ![32, 64, 128]⟩
abbrev S1x64x128 : Shape := ⟨3, ![1, 64, 128]⟩
abbrev S64x128 : Shape := ⟨2, ![64, 128]⟩
abbrev S_ : Shape := ⟨0, ![]⟩
abbrev S64x256 : Shape := ⟨2, ![64, 256]⟩
abbrev S128x256 : Shape := ⟨2, ![128, 256]⟩
abbrev S2048x256 : Shape := ⟨2, ![2048, 256]⟩
abbrev S2048x512 : Shape := ⟨2, ![2048, 512]⟩
abbrev S8x128x256 : Shape := ⟨3, ![8, 128, 256]⟩
abbrev S1x2048x128 : Shape := ⟨3, ![1, 2048, 128]⟩
abbrev S1x128x256 : Shape := ⟨3, ![1, 128, 256]⟩
abbrev S1x128x128 : Shape := ⟨3, ![1, 128, 128]⟩
abbrev S128x128 : Shape := ⟨2, ![128, 128]⟩
abbrev S128x2048 : Shape := ⟨2, ![128, 2048]⟩
abbrev S128x512 : Shape := ⟨2, ![128, 512]⟩

abbrev nBuf : Space → Nat
  | .hbm => 236
  | .vmem => 7
  | .smem => 0
  | _ => 0

abbrev hbmTy0_0 (i : Nat) : BufTy := match i % 128 with
  | 0 => ⟨S8x2048x128, .f32⟩
  | 1 => ⟨S32x64x128, .f32⟩
  | 2 => ⟨S1x64x128, .f32⟩
  | 3 => ⟨S64x128, .f32⟩
  | 4 => ⟨S_, .f32⟩
  | 5 => ⟨S64x128, .f32⟩
  | 6 => ⟨S1x64x128, .f32⟩
  | 7 => ⟨S64x128, .f32⟩
  | 8 => ⟨S64x256, .f32⟩
  | 9 => ⟨S1x64x128, .f32⟩
  | 10 => ⟨S64x128, .f32⟩
  | 11 => ⟨S64x256, .f32⟩
  | 12 => ⟨S128x256, .f32⟩
  | 13 => ⟨S1x64x128, .f32⟩
  | 14 => ⟨S64x128, .f32⟩
  | 15 => ⟨S64x256, .f32⟩
  | 16 => ⟨S1x64x128, .f32⟩
  | 17 => ⟨S64x128, .f32⟩
  | 18 => ⟨S64x256, .f32⟩
  | 19 => ⟨S128x256, .f32⟩
  | 20 => ⟨S1x64x128, .f32⟩
  | 21 => ⟨S64x128, .f32⟩
  | 22 => ⟨S64x256, .f32⟩
  | 23 => ⟨S1x64x128, .f32⟩
  | 24 => ⟨S64x128, .f32⟩
  | 25 => ⟨S64x256, .f32⟩
  | 26 => ⟨S128x256, .f32⟩
  | 27 => ⟨S1x64x128, .f32⟩
  | 28 => ⟨S64x128, .f32⟩
  | 29 => ⟨S64x256, .f32⟩
  | 30 => ⟨S1x64x128, .f32⟩
  | 31 => ⟨S64x128, .f32⟩
  | 32 => ⟨S64x256, .f32⟩
  | 33 => ⟨S128x256, .f32⟩
  | 34 => ⟨S1x64x128, .f32⟩
  | 35 => ⟨S64x128, .f32⟩
  | 36 => ⟨S64x256, .f32⟩
  | 37 => ⟨S1x64x128, .f32⟩
  | 38 => ⟨S64x128, .f32⟩
  | 39 => ⟨S64x256, .f32⟩
  | 40 => ⟨S128x256, .f32⟩
  | 41 => ⟨S1x64x128, .f32⟩
  | 42 => ⟨S64x128, .f32⟩
  | 43 => ⟨S64x256, .f32⟩
  | 44 => ⟨S1x64x128, .f32⟩
  | 45 => ⟨S64x128, .f32⟩
  | 46 => ⟨S64x256, .f32⟩
  | 47 => ⟨S128x256, .f32⟩
  | 48 => ⟨S1x64x128, .f32⟩
  | 49 => ⟨S64x128, .f32⟩
  | 50 => ⟨S64x256, .f32⟩
  | 51 => ⟨S1x64x128, .f32⟩
  | 52 => ⟨S64x128, .f32⟩
  | 53 => ⟨S64x256, .f32⟩
  | 54 => ⟨S128x256, .f32⟩
  | 55 => ⟨S1x64x128, .f32⟩
  | 56 => ⟨S64x128, .f32⟩
  | 57 => ⟨S64x256, .f32⟩
  | 58 => ⟨S1x64x128, .f32⟩
  | 59 => ⟨S64x128, .f32⟩
  | 60 => ⟨S64x256, .f32⟩
  | 61 => ⟨S128x256, .f32⟩
  | 62 => ⟨S1x64x128, .f32⟩
  | 63 => ⟨S64x128, .f32⟩
  | 64 => ⟨S64x256, .f32⟩
  | 65 => ⟨S1x64x128, .f32⟩
  | 66 => ⟨S64x128, .f32⟩
  | 67 => ⟨S64x256, .f32⟩
  | 68 => ⟨S128x256, .f32⟩
  | 69 => ⟨S1x64x128, .f32⟩
  | 70 => ⟨S64x128, .f32⟩
  | 71 => ⟨S64x256, .f32⟩
  | 72 => ⟨S1x64x128, .f32⟩
  | 73 => ⟨S64x128, .f32⟩
  | 74 => ⟨S64x256, .f32⟩
  | 75 => ⟨S128x256, .f32⟩
  | 76 => ⟨S1x64x128, .f32⟩
  | 77 => ⟨S64x128, .f32⟩
  | 78 => ⟨S64x256, .f32⟩
  | 79 => ⟨S1x64x128, .f32⟩
  | 80 => ⟨S64x128, .f32⟩
  | 81 => ⟨S64x256, .f32⟩
  | 82 => ⟨S128x256, .f32⟩
  | 83 => ⟨S1x64x128, .f32⟩
  | 84 => ⟨S64x128, .f32⟩
  | 85 => ⟨S64x256, .f32⟩
  | 86 => ⟨S1x64x128, .f32⟩
  | 87 => ⟨S64x128, .f32⟩
  | 88 => ⟨S64x256, .f32⟩
  | 89 => ⟨S128x256, .f32⟩
  | 90 => ⟨S1x64x128, .f32⟩
  | 91 => ⟨S64x128, .f32⟩
  | 92 => ⟨S64x256, .f32⟩
  | 93 => ⟨S1x64x128, .f32⟩
  | 94 => ⟨S64x128, .f32⟩
  | 95 => ⟨S64x256, .f32⟩
  | 96 => ⟨S128x256, .f32⟩
  | 97 => ⟨S1x64x128, .f32⟩
  | 98 => ⟨S64x128, .f32⟩
  | 99 => ⟨S64x256, .f32⟩
  | 100 => ⟨S1x64x128, .f32⟩
  | 101 => ⟨S64x128, .f32⟩
  | 102 => ⟨S64x256, .f32⟩
  | 103 => ⟨S128x256, .f32⟩
  | 104 => ⟨S1x64x128, .f32⟩
  | 105 => ⟨S64x128, .f32⟩
  | 106 => ⟨S64x256, .f32⟩
  | 107 => ⟨S1x64x128, .f32⟩
  | 108 => ⟨S64x128, .f32⟩
  | 109 => ⟨S64x256, .f32⟩
  | 110 => ⟨S128x256, .f32⟩
  | 111 => ⟨S1x64x128, .f32⟩
  | 112 => ⟨S64x128, .f32⟩
  | 113 => ⟨S64x256, .f32⟩
  | 114 => ⟨S1x64x128, .f32⟩
  | 115 => ⟨S64x128, .f32⟩
  | 116 => ⟨S64x256, .f32⟩
  | 117 => ⟨S128x256, .f32⟩
  | 118 => ⟨S2048x256, .f32⟩
  | 119 => ⟨S1x64x128, .f32⟩
  | 120 => ⟨S64x128, .f32⟩
  | 121 => ⟨S64x256, .f32⟩
  | 122 => ⟨S1x64x128, .f32⟩
  | 123 => ⟨S64x128, .f32⟩
  | 124 => ⟨S64x256, .f32⟩
  | 125 => ⟨S128x256, .f32⟩
  | 126 => ⟨S1x64x128, .f32⟩
  | 127 => ⟨S64x128, .f32⟩
  | _ => ⟨S8x2048x128, .f32⟩

abbrev hbmTy0_1 (i : Nat) : BufTy := match i % 128 with
  | 0 => ⟨S64x256, .f32⟩
  | 1 => ⟨S1x64x128, .f32⟩
  | 2 => ⟨S64x128, .f32⟩
  | 3 => ⟨S64x256, .f32⟩
  | 4 => ⟨S128x256, .f32⟩
  | 5 => ⟨S1x64x128, .f32⟩
  | 6 => ⟨S64x128, .f32⟩
  | 7 => ⟨S64x256, .f32⟩
  | 8 => ⟨S1x64x128, .f32⟩
  | 9 => ⟨S64x128, .f32⟩
  | 10 => ⟨S64x256, .f32⟩
  | 11 => ⟨S128x256, .f32⟩
  | 12 => ⟨S1x64x128, .f32⟩
  | 13 => ⟨S64x128, .f32⟩
  | 14 => ⟨S64x256, .f32⟩
  | 15 => ⟨S1x64x128, .f32⟩
  | 16 => ⟨S64x128, .f32⟩
  | 17 => ⟨S64x256, .f32⟩
  | 18 => ⟨S128x256, .f32⟩
  | 19 => ⟨S1x64x128, .f32⟩
  | 20 => ⟨S64x128, .f32⟩
  | 21 => ⟨S64x256, .f32⟩
  | 22 => ⟨S1x64x128, .f32⟩
  | 23 => ⟨S64x128, .f32⟩
  | 24 => ⟨S64x256, .f32⟩
  | 25 => ⟨S128x256, .f32⟩
  | 26 => ⟨S1x64x128, .f32⟩
  | 27 => ⟨S64x128, .f32⟩
  | 28 => ⟨S64x256, .f32⟩
  | 29 => ⟨S1x64x128, .f32⟩
  | 30 => ⟨S64x128, .f32⟩
  | 31 => ⟨S64x256, .f32⟩
  | 32 => ⟨S128x256, .f32⟩
  | 33 => ⟨S1x64x128, .f32⟩
  | 34 => ⟨S64x128, .f32⟩
  | 35 => ⟨S64x256, .f32⟩
  | 36 => ⟨S1x64x128, .f32⟩
  | 37 => ⟨S64x128, .f32⟩
  | 38 => ⟨S64x256, .f32⟩
  | 39 => ⟨S128x256, .f32⟩
  | 40 => ⟨S1x64x128, .f32⟩
  | 41 => ⟨S64x128, .f32⟩
  | 42 => ⟨S64x256, .f32⟩
  | 43 => ⟨S1x64x128, .f32⟩
  | 44 => ⟨S64x128, .f32⟩
  | 45 => ⟨S64x256, .f32⟩
  | 46 => ⟨S128x256, .f32⟩
  | 47 => ⟨S1x64x128, .f32⟩
  | 48 => ⟨S64x128, .f32⟩
  | 49 => ⟨S64x256, .f32⟩
  | 50 => ⟨S1x64x128, .f32⟩
  | 51 => ⟨S64x128, .f32⟩
  | 52 => ⟨S64x256, .f32⟩
  | 53 => ⟨S128x256, .f32⟩
  | 54 => ⟨S1x64x128, .f32⟩
  | 55 => ⟨S64x128, .f32⟩
  | 56 => ⟨S64x256, .f32⟩
  | 57 => ⟨S1x64x128, .f32⟩
  | 58 => ⟨S64x128, .f32⟩
  | 59 => ⟨S64x256, .f32⟩
  | 60 => ⟨S128x256, .f32⟩
  | 61 => ⟨S1x64x128, .f32⟩
  | 62 => ⟨S64x128, .f32⟩
  | 63 => ⟨S64x256, .f32⟩
  | 64 => ⟨S1x64x128, .f32⟩
  | 65 => ⟨S64x128, .f32⟩
  | 66 => ⟨S64x256, .f32⟩
  | 67 => ⟨S128x256, .f32⟩
  | 68 => ⟨S1x64x128, .f32⟩
  | 69 => ⟨S64x128, .f32⟩
  | 70 => ⟨S64x256, .f32⟩
  | 71 => ⟨S1x64x128, .f32⟩
  | 72 => ⟨S64x128, .f32⟩
  | 73 => ⟨S64x256, .f32⟩
  | 74 => ⟨S128x256, .f32⟩
  | 75 => ⟨S1x64x128, .f32⟩
  | 76 => ⟨S64x128, .f32⟩
  | 77 => ⟨S64x256, .f32⟩
  | 78 => ⟨S1x64x128, .f32⟩
  | 79 => ⟨S64x128, .f32⟩
  | 80 => ⟨S64x256, .f32⟩
  | 81 => ⟨S128x256, .f32⟩
  | 82 => ⟨S1x64x128, .f32⟩
  | 83 => ⟨S64x128, .f32⟩
  | 84 => ⟨S64x256, .f32⟩
  | 85 => ⟨S1x64x128, .f32⟩
  | 86 => ⟨S64x128, .f32⟩
  | 87 => ⟨S64x256, .f32⟩
  | 88 => ⟨S128x256, .f32⟩
  | 89 => ⟨S1x64x128, .f32⟩
  | 90 => ⟨S64x128, .f32⟩
  | 91 => ⟨S64x256, .f32⟩
  | 92 => ⟨S1x64x128, .f32⟩
  | 93 => ⟨S64x128, .f32⟩
  | 94 => ⟨S64x256, .f32⟩
  | 95 => ⟨S128x256, .f32⟩
  | 96 => ⟨S1x64x128, .f32⟩
  | 97 => ⟨S64x128, .f32⟩
  | 98 => ⟨S64x256, .f32⟩
  | 99 => ⟨S1x64x128, .f32⟩
  | 100 => ⟨S64x128, .f32⟩
  | 101 => ⟨S64x256, .f32⟩
  | 102 => ⟨S128x256, .f32⟩
  | 103 => ⟨S2048x256, .f32⟩
  | 104 => ⟨S2048x512, .f32⟩
  | 105 => ⟨S2048x512, .bf16⟩
  | 106 => ⟨S8x128x256, .f32⟩
  | 107 => ⟨S8x128x256, .f32⟩
  | _ => ⟨S8x2048x128, .f32⟩

abbrev hbmTy (i : Nat) : BufTy := match i / 128 with
  | 0 => hbmTy0_0 i
  | 1 => hbmTy0_1 i
  | _ => ⟨S8x2048x128, .f32⟩

abbrev bufTy : (tb : Table) → Fin (tcTables nBuf tb) → BufTy
  | .hbm, ⟨i, _⟩ => hbmTy i
  | .local _ .vmem, ⟨0, _⟩ => ⟨S1x2048x128, .f32⟩
  | .local _ .vmem, ⟨1, _⟩ => ⟨S1x2048x128, .f32⟩
  | .local _ .vmem, ⟨2, _⟩ => ⟨S2048x512, .bf16⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩
abbrev main_v130 : Ref sig .tc := ⟨.hbm, 133, rfl⟩
abbrev main_v131 : Ref sig .tc := ⟨.hbm, 134, rfl⟩
abbrev main_v132 : Ref sig .tc := ⟨.hbm, 135, rfl⟩
abbrev main_v133 : Ref sig .tc := ⟨.hbm, 136, rfl⟩
abbrev main_v134 : Ref sig .tc := ⟨.hbm, 137, rfl⟩
abbrev main_v135 : Ref sig .tc := ⟨.hbm, 138, rfl⟩
abbrev main_v136 : Ref sig .tc := ⟨.hbm, 139, rfl⟩
abbrev main_v137 : Ref sig .tc := ⟨.hbm, 140, rfl⟩
abbrev main_v138 : Ref sig .tc := ⟨.hbm, 141, rfl⟩
abbrev main_v139 : Ref sig .tc := ⟨.hbm, 142, rfl⟩
abbrev main_v140 : Ref sig .tc := ⟨.hbm, 143, rfl⟩
abbrev main_v141 : Ref sig .tc := ⟨.hbm, 144, rfl⟩
abbrev main_v142 : Ref sig .tc := ⟨.hbm, 145, rfl⟩
abbrev main_v143 : Ref sig .tc := ⟨.hbm, 146, rfl⟩
abbrev main_v144 : Ref sig .tc := ⟨.hbm, 147, rfl⟩
abbrev main_v145 : Ref sig .tc := ⟨.hbm, 148, rfl⟩
abbrev main_v146 : Ref sig .tc := ⟨.hbm, 149, rfl⟩
abbrev main_v147 : Ref sig .tc := ⟨.hbm, 150, rfl⟩
abbrev main_v148 : Ref sig .tc := ⟨.hbm, 151, rfl⟩
abbrev main_v149 : Ref sig .tc := ⟨.hbm, 152, rfl⟩
abbrev main_v150 : Ref sig .tc := ⟨.hbm, 153, rfl⟩
abbrev main_v151 : Ref sig .tc := ⟨.hbm, 154, rfl⟩
abbrev main_v152 : Ref sig .tc := ⟨.hbm, 155, rfl⟩
abbrev main_v153 : Ref sig .tc := ⟨.hbm, 156, rfl⟩
abbrev main_v154 : Ref sig .tc := ⟨.hbm, 157, rfl⟩
abbrev main_v155 : Ref sig .tc := ⟨.hbm, 158, rfl⟩
abbrev main_v156 : Ref sig .tc := ⟨.hbm, 159, rfl⟩
abbrev main_v157 : Ref sig .tc := ⟨.hbm, 160, rfl⟩
abbrev main_v158 : Ref sig .tc := ⟨.hbm, 161, rfl⟩
abbrev main_v159 : Ref sig .tc := ⟨.hbm, 162, rfl⟩
abbrev main_v160 : Ref sig .tc := ⟨.hbm, 163, rfl⟩
abbrev main_v161 : Ref sig .tc := ⟨.hbm, 164, rfl⟩
abbrev main_v162 : Ref sig .tc := ⟨.hbm, 165, rfl⟩
abbrev main_v163 : Ref sig .tc := ⟨.hbm, 166, rfl⟩
abbrev main_v164 : Ref sig .tc := ⟨.hbm, 167, rfl⟩
abbrev main_v165 : Ref sig .tc := ⟨.hbm, 168, rfl⟩
abbrev main_v166 : Ref sig .tc := ⟨.hbm, 169, rfl⟩
abbrev main_v167 : Ref sig .tc := ⟨.hbm, 170, rfl⟩
abbrev main_v168 : Ref sig .tc := ⟨.hbm, 171, rfl⟩
abbrev main_v169 : Ref sig .tc := ⟨.hbm, 172, rfl⟩
abbrev main_v170 : Ref sig .tc := ⟨.hbm, 173, rfl⟩
abbrev main_v171 : Ref sig .tc := ⟨.hbm, 174, rfl⟩
abbrev main_v172 : Ref sig .tc := ⟨.hbm, 175, rfl⟩
abbrev main_v173 : Ref sig .tc := ⟨.hbm, 176, rfl⟩
abbrev main_v174 : Ref sig .tc := ⟨.hbm, 177, rfl⟩
abbrev main_v175 : Ref sig .tc := ⟨.hbm, 178, rfl⟩
abbrev main_v176 : Ref sig .tc := ⟨.hbm, 179, rfl⟩
abbrev main_v177 : Ref sig .tc := ⟨.hbm, 180, rfl⟩
abbrev main_v178 : Ref sig .tc := ⟨.hbm, 181, rfl⟩
abbrev main_v179 : Ref sig .tc := ⟨.hbm, 182, rfl⟩
abbrev main_v180 : Ref sig .tc := ⟨.hbm, 183, rfl⟩
abbrev main_v181 : Ref sig .tc := ⟨.hbm, 184, rfl⟩
abbrev main_v182 : Ref sig .tc := ⟨.hbm, 185, rfl⟩
abbrev main_v183 : Ref sig .tc := ⟨.hbm, 186, rfl⟩
abbrev main_v184 : Ref sig .tc := ⟨.hbm, 187, rfl⟩
abbrev main_v185 : Ref sig .tc := ⟨.hbm, 188, rfl⟩
abbrev main_v186 : Ref sig .tc := ⟨.hbm, 189, rfl⟩
abbrev main_v187 : Ref sig .tc := ⟨.hbm, 190, rfl⟩
abbrev main_v188 : Ref sig .tc := ⟨.hbm, 191, rfl⟩
abbrev main_v189 : Ref sig .tc := ⟨.hbm, 192, rfl⟩
abbrev main_v190 : Ref sig .tc := ⟨.hbm, 193, rfl⟩
abbrev main_v191 : Ref sig .tc := ⟨.hbm, 194, rfl⟩
abbrev main_v192 : Ref sig .tc := ⟨.hbm, 195, rfl⟩
abbrev main_v193 : Ref sig .tc := ⟨.hbm, 196, rfl⟩
abbrev main_v194 : Ref sig .tc := ⟨.hbm, 197, rfl⟩
abbrev main_v195 : Ref sig .tc := ⟨.hbm, 198, rfl⟩
abbrev main_v196 : Ref sig .tc := ⟨.hbm, 199, rfl⟩
abbrev main_v197 : Ref sig .tc := ⟨.hbm, 200, rfl⟩
abbrev main_v198 : Ref sig .tc := ⟨.hbm, 201, rfl⟩
abbrev main_v199 : Ref sig .tc := ⟨.hbm, 202, rfl⟩
abbrev main_v200 : Ref sig .tc := ⟨.hbm, 203, rfl⟩
abbrev main_v201 : Ref sig .tc := ⟨.hbm, 204, rfl⟩
abbrev main_v202 : Ref sig .tc := ⟨.hbm, 205, rfl⟩
abbrev main_v203 : Ref sig .tc := ⟨.hbm, 206, rfl⟩
abbrev main_v204 : Ref sig .tc := ⟨.hbm, 207, rfl⟩
abbrev main_v205 : Ref sig .tc := ⟨.hbm, 208, rfl⟩
abbrev main_v206 : Ref sig .tc := ⟨.hbm, 209, rfl⟩
abbrev main_v207 : Ref sig .tc := ⟨.hbm, 210, rfl⟩
abbrev main_v208 : Ref sig .tc := ⟨.hbm, 211, rfl⟩
abbrev main_v209 : Ref sig .tc := ⟨.hbm, 212, rfl⟩
abbrev main_v210 : Ref sig .tc := ⟨.hbm, 213, rfl⟩
abbrev main_v211 : Ref sig .tc := ⟨.hbm, 214, rfl⟩
abbrev main_v212 : Ref sig .tc := ⟨.hbm, 215, rfl⟩
abbrev main_v213 : Ref sig .tc := ⟨.hbm, 216, rfl⟩
abbrev main_v214 : Ref sig .tc := ⟨.hbm, 217, rfl⟩
abbrev main_v215 : Ref sig .tc := ⟨.hbm, 218, rfl⟩
abbrev main_v216 : Ref sig .tc := ⟨.hbm, 219, rfl⟩
abbrev main_v217 : Ref sig .tc := ⟨.hbm, 220, rfl⟩
abbrev main_v218 : Ref sig .tc := ⟨.hbm, 221, rfl⟩
abbrev main_v219 : Ref sig .tc := ⟨.hbm, 222, rfl⟩
abbrev main_v220 : Ref sig .tc := ⟨.hbm, 223, rfl⟩
abbrev main_v221 : Ref sig .tc := ⟨.hbm, 224, rfl⟩
abbrev main_v222 : Ref sig .tc := ⟨.hbm, 225, rfl⟩
abbrev main_v223 : Ref sig .tc := ⟨.hbm, 226, rfl⟩
abbrev main_v224 : Ref sig .tc := ⟨.hbm, 227, rfl⟩
abbrev main_v225 : Ref sig .tc := ⟨.hbm, 228, rfl⟩
abbrev main_v226 : Ref sig .tc := ⟨.hbm, 229, rfl⟩
abbrev main_v227 : Ref sig .tc := ⟨.hbm, 230, rfl⟩
abbrev main_v228 : Ref sig .tc := ⟨.hbm, 231, rfl⟩
abbrev main_v229 : Ref sig .tc := ⟨.hbm, 232, rfl⟩
abbrev main_v230 : Ref sig .tc := ⟨.hbm, 233, rfl⟩
abbrev main_v231_0 : Ref sig .tc := ⟨.hbm, 234, rfl⟩
abbrev main_v231_1 : Ref sig .tc := ⟨.hbm, 235, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x2048x128 : Shape := ⟨3, ![8, 2048, 128]⟩
abbrev S32x64x128 : Shape := ⟨3, ![32, 64, 128]⟩
abbrev S8x128x16x2x64 : Shape := ⟨5, ![8, 128, 16, 2, 64]⟩
abbrev S16x64x128 : Shape := ⟨3, ![16, 64, 128]⟩
abbrev S8x128x2x128 : Shape := ⟨4, ![8, 128, 2, 128]⟩
abbrev S8x128x256 : Shape := ⟨3, ![8, 128, 256]⟩

abbrev nBuf : Space → Nat
  | .hbm => 9
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S32x64x128, .f32⟩
  | .hbm, ⟨2, _⟩ => ⟨S8x128x16x2x64, .f32⟩
  | .hbm, ⟨3, _⟩ => ⟨S16x64x128, .f32⟩
  | .hbm, ⟨4, _⟩ => ⟨S8x128x2x128, .f32⟩
  | .hbm, ⟨5, _⟩ => ⟨S8x128x256, .f32⟩
  | .hbm, ⟨6, _⟩ => ⟨S16x64x128, .f32⟩
  | .hbm, ⟨7, _⟩ => ⟨S8x128x2x128, .f32⟩
  | .hbm, ⟨8, _⟩ => ⟨S8x128x256, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Proof.Cat.lean ====
/-
  A concatenation of pieces of one shape, read at an index: the piece the axis coordinate falls in, at the coordinate's
  place in that piece.
-/
module

public import Idealize.ShloMosaic.Lib.Pointwise

@[expose] public section

noncomputable section

open Idealize.ShloMosaic

namespace Cert.Cat

variable {α : Type} {t s : Shape} {a : Fin t.rank}

/-- The pieces `xs`, each of extent `w` along the axis, read along the axis at `c`: `G i r` is what piece `i` holds at `r`, at
    `j`'s coordinates off the axis. -/
theorem at_eq (hr : s.FitsOff t a) (w : ℕ) (hw : s.size (a.cast hr.rank_eq.symm) = w) (hw0 : 0 < w) (j : t.Idx)
    (xs : List (s.Idx → α)) (G : ℕ → ℕ → α)
    (hx : ∀ (i : ℕ) (hi : i < xs.length) (y : s.Idx), (∀ b : Fin s.rank, b.val ≠ a.val → (y b).val = (j (b.cast hr.rank_eq)).val) →
      xs[i] y = G i (y (a.cast hr.rank_eq.symm)).val)
    (hs : ∀ s' ∈ (xs.map fun f => (⟨s, f⟩ : (s : Shape) × (s.Idx → α))).map (·.1), s'.FitsOff t a) (c : ℕ)
    (hc : c < (axisSizes t a (xs.map fun f => (⟨s, f⟩ : (s : Shape) × (s.Idx → α)))).sum) :
    concatenateAt t a j (xs.map fun f => (⟨s, f⟩ : (s : Shape) × (s.Idx → α))) hs c hc = G (c / w) (c % w) := by
  induction xs generalizing G c with
  | nil => exact absurd hc (Nat.not_lt_zero _)
  | cons x xs ih =>
    have first : ∀ (y : s.Idx), (∀ b : Fin s.rank, (y b).val = if b.val = a.val then c else (j (b.cast hr.rank_eq)).val) → c < w →
        x y = G (c / w) (c % w) := by
      intro y hy hlt
      rw [Nat.div_eq_of_lt hlt, Nat.mod_eq_of_lt hlt]
      have := hx 0 (Nat.zero_lt_succ _) y (fun b hb => by rw [hy b, if_neg hb])
      rw [hy, if_pos (show (a.cast hr.rank_eq.symm).val = a.val from rfl)] at this
      exact this
    cases xs with
    | nil =>
      have hlt : c < w := by
        have h := hc
        simp only [List.map_cons, List.map_nil] at h
        rw [axisSizes_cons t a ⟨s, x⟩ [] hr] at h
        simpa [hw] using h
      simp only [List.map_cons, List.map_nil]
      rw [concatenateAt_singleton]
      exact first _ (fun b => by simp only [Shape.Idx.norm_def]) hlt
    | cons q xs =>
      simp only [List.map_cons]
      rw [concatenateAt_cons]
      split_ifs with hlt
      · exact first _ (fun b => by simp only [Shape.Idx.norm_def]) (hw ▸ hlt)
      · have hge : w ≤ c := by have := Nat.le_of_not_lt hlt; rwa [hw] at this
        have key := ih (fun i r => G (i + 1) r) (fun i hi y hy => hx (i + 1) (Nat.succ_lt_succ hi) y hy)
          (fun s' h => hs s' (List.mem_cons_of_mem _ h)) (c - w)
          (by
            have h := hc
            simp only [List.map_cons] at h
            rw [axisSizes_cons t a ⟨s, x⟩ _ hr, List.sum_cons] at h
            have h2 : c < w + _ := hw ▸ h
            exact Nat.sub_lt_left_of_lt_add hge h2)
        have e1 : (c - w) / w + 1 = c / w := (Nat.div_eq_sub_div hw0 hge).symm
        have e2 : (c - w) % w = c % w := (Nat.mod_eq_sub_mod hge).symm
        simp only [e1, e2] at key
        simp only [hw]
        exact key

/-- The pieces `xs` hold, at `j`'s coordinates off the axis, what `G` says, piece by piece. -/
def Holds (hr : s.FitsOff t a) (j : t.Idx) : List (s.Idx → α) → (ℕ → ℕ → α) → Prop
  | [], _ => True
  | x :: xs, G => (∀ y : s.Idx, (∀ b : Fin s.rank, b.val ≠ a.val → (y b).val = (j (b.cast hr.rank_eq)).val) →
      x y = G 0 (y (a.cast hr.rank_eq.symm)).val) ∧ Holds hr j xs (fun i => G (i + 1))

theorem Holds.get (hr : s.FitsOff t a) (j : t.Idx) (xs : List (s.Idx → α)) (G : ℕ → ℕ → α) (h : Holds hr j xs G)
    (i : ℕ) (hi : i < xs.length) (y : s.Idx) (hy : ∀ b : Fin s.rank, b.val ≠ a.val → (y b).val = (j (b.cast hr.rank_eq)).val) :
    xs[i] y = G i (y (a.cast hr.rank_eq.symm)).val := by
  induction xs generalizing G i with
  | nil => exact absurd hi (Nat.not_lt_zero _)
  | cons x xs ih =>
    cases i with
    | zero => exact h.1 y hy
    | succ i => exact ih (fun i => G (i + 1)) h.2 i (Nat.lt_of_succ_lt_succ hi)

/-- The same for the operation itself. -/
theorem read_at (hr : s.FitsOff t a) (w : ℕ) (hw : s.size (a.cast hr.rank_eq.symm) = w) (hw0 : 0 < w) (j : t.Idx)
    (xs : List (s.Idx → α)) (G : ℕ → ℕ → α)
    (hx : ∀ (i : ℕ) (hi : i < xs.length) (y : s.Idx), (∀ b : Fin s.rank, b.val ≠ a.val → (y b).val = (j (b.cast hr.rank_eq)).val) →
      xs[i] y = G i (y (a.cast hr.rank_eq.symm)).val)
    (h : Shape.Concatenates ((xs.map fun f => (⟨s, f⟩ : (s : Shape) × (s.Idx → α))).map (·.1)) t a) :
    concatenate t a (xs.map fun f => (⟨s, f⟩ : (s : Shape) × (s.Idx → α))) h j = G ((j a).val / w) ((j a).val % w) := by
  rw [concatenate_apply]
  exact at_eq hr w hw hw0 j xs G hx _ _ _

theorem read_holds (hr : s.FitsOff t a) (w : ℕ) (hw : s.size (a.cast hr.rank_eq.symm) = w) (hw0 : 0 < w) (j : t.Idx)
    (xs : List (s.Idx → α)) (G : ℕ → ℕ → α)
    (h : Shape.Concatenates ((xs.map fun f => (⟨s, f⟩ : (s : Shape) × (s.Idx → α))).map (·.1)) t a) (hx : Holds hr j xs G) :
    concatenate t a (xs.map fun f => (⟨s, f⟩ : (s : Shape) × (s.Idx → α))) h j = G ((j a).val / w) ((j a).val % w) :=
  read_at hr w hw hw0 j xs G (Holds.get hr j xs G hx) h

end Cert.Cat

end
-- ==== Proof.CabPay.lean ====
/-
  What one grid step of the compression's first layer computes, read at an index: the sixteen rows of every chunk side by
  side, and their product with the two halves of the weights.
-/
module

public import proofs.«01_k».proof.Proof.Gen.Kernel4Ideal.Value
public import Idealize.ShloMosaic.Lib.Pointwise
public import Idealize.ShloMosaic.Lib.Tactic.CleanTypes
public import proofs.«01_k».proof.Proof.Cat

@[expose] public section

set_option maxRecDepth 16384

noncomputable section

open Idealize.ShloMosaic Idealize.ShloMosaic.TcCoe Idealize.SL.Sem

namespace Cert.CabPay

open Cert.Kernel4Ideal Cert.Kernel4Ideal.Gen

theorem low_at (X : FVec Ideal S128x2048 .f32) (W : FVec Ideal S2048x512 .bf16) (n : Fin 128) (e : Fin 256) :
    (k0_pay3 (F := Ideal) (k0_pay2 X W) : FVec Ideal S1x128x256 .f32) (ix3 0 n e) = ∑ k : Fin 2048, X (ix2 n k) * W (ix2 k ⟨e.val, by omega⟩) := by
  unfold k0_pay3 k0_pay2
  pointwise

theorem high_at (X : FVec Ideal S128x2048 .f32) (W : FVec Ideal S2048x512 .bf16) (n : Fin 128) (e : Fin 256) :
    (k0_pay4 (F := Ideal) (k0_pay2 X W) : FVec Ideal S1x128x256 .f32) (ix3 0 n e) = ∑ k : Fin 2048, X (ix2 n k) * W (ix2 k ⟨256 + e.val, by omega⟩) := by
  unfold k0_pay4 k0_pay2
  pointwise

/-- Sixteen blocks of 128 columns side by side, when block `l` holds entry `l` of every chunk. -/
theorem rows_at (R : ℕ → Fin 128 → ℕ → EReal) (f : Fin 16 → FVec Ideal S1x128x128 .f32) (hf : ∀ l n d, f l (ix3 0 n d) = R l.val n d.val) (n : Fin 128) (k : Fin 2048) :
    (k0_pay1 (F := Ideal) (k0_pay5 (f 0)) (k0_pay6 (f 1)) (k0_pay7 (f 2)) (k0_pay8 (f 3)) (k0_pay9 (f 4)) (k0_pay10 (f 5)) (k0_pay11 (f 6)) (k0_pay12 (f 7)) (k0_pay13 (f 8)) (k0_pay14 (f 9)) (k0_pay15 (f 10)) (f 11) (f 12) (f 13) (f 14) (f 15) : FVec Ideal S128x2048 .f32) (ix2 n k)
      = R (k.val / 128) n (k.val % 128) := by
  refine (Cat.read_at (s := S128x128) (t := S128x2048) (a := 1) ⟨rfl, by decide⟩ 128 rfl (by decide) (ix2 n k)
    (List.ofFn fun l : Fin 16 => shapeCast S128x128 (f l) shapeCasts_S1x128x128_S128x128) (fun i r => R i n r) ?_ concatenates_S128x128_S128x128_S128x128_S128x128_S128x128_S128x128_S128x128_S128x128_S128x128_S128x128_S128x128_S128x128_S128x128_S128x128_S128x128_S128x128_S128x2048_d1)
  intro i hi y hy
  idx_vars y
  have h0 : y0 = n := Fin.ext (hy 0 (by decide))
  subst h0
  rw [List.getElem_ofFn]
  pointwise
  rw [hf]

end Cert.CabPay

end
-- ==== Proof.CabRead.lean ====
/-
  The weights the compression's first layer multiplies by, read at an index: for every entry of a chunk one block, the
  entry's weights in its two halves of the diagonal and zeros elsewhere.
-/
module

public import proofs.«01_k».proof.Proof.Gen.Kernel4Ideal.Value
public import Idealize.ShloMosaic.Lib.StableHlo.RunRead
public import Idealize.ShloMosaic.Lib.Pointwise
public import Idealize.ShloMosaic.Lib.Claim
public import proofs.«01_k».proof.Proof.Cat

@[expose] public section

set_option maxRecDepth 65536

noncomputable section

open Idealize.ShloMosaic Idealize.ShloMosaic.TcCoe Idealize.SL.Sem Idealize.ShloMosaic.StableHlo

namespace Cert.CabRead

open Cert.Kernel4Ideal Cert.Kernel4Ideal.Gen

/-- The weights of entry `l`, at a row and a column. -/
def wt (A : FVec Ideal S32x64x128 .f32) (l r e : ℕ) : EReal :=
  A (ix3 ⟨l % 32, Nat.mod_lt _ (by decide)⟩ ⟨r % 64, Nat.mod_lt _ (by decide)⟩ ⟨e % 128, Nat.mod_lt _ (by decide)⟩)

/-- One diagonal block: `w` in the two halves of the diagonal, zeros elsewhere. -/
theorem piece_at (P Q : FVec Ideal S64x256 .f32) (w : ℕ → ℕ → EReal)
    (hP : ∀ r e, P (ix2 r e) = if e.val < 128 then w r.val (e.val % 128) else 0)
    (hQ : ∀ r e, Q (ix2 r e) = if e.val < 128 then 0 else w r.val (e.val % 128)) (r : Fin 128) (e : Fin 256) :
    concatenate S128x256 0 [⟨S64x256, P⟩, ⟨S64x256, Q⟩] concatenates_S64x256_S64x256_S128x256_d0 (ix2 r e)
    = if r.val / 64 = e.val / 128 then w (r.val % 64) (e.val % 128) else 0 := by
  pointwise
  have hr := r.isLt; have he := e.isLt
  simp only [hP, hQ]
  by_cases h1 : r.val < 64 <;> by_cases h2 : e.val < 128
  · rw [dif_pos h1, if_pos h2, if_pos (by omega), show r.val % 64 = r.val by omega]
  · rw [dif_pos h1, if_neg h2, if_neg (by omega)]
  · rw [dif_neg h1, if_pos h2, if_neg (by omega)]
  · rw [dif_neg h1, if_neg h2, if_pos (by omega), show r.val % 64 = r.val - 64 by omega]

theorem left_eq (A : FVec Ideal S32x64x128 .f32) (l : Fin 32) (r : Fin 64) (e : Fin 256) (he : ∀ _ : e.val < 128, e.val < 128) :
    (if h : e.val < 128 then A (ix3 l r ⟨e.val, he h⟩) else 0) = if e.val < 128 then wt A l.val r.val (e.val % 128) else 0 := by
  have hl := l.isLt; have hr := r.isLt
  split_ifs with h
  · unfold wt
    refine congrArg A (funext fun a => ?_)
    fin_cases a <;> refine Fin.ext ?_ <;> simp [ix3] <;> omega
  · rfl

theorem right_eq (A : FVec Ideal S32x64x128 .f32) (l : Fin 32) (r : Fin 64) (e : Fin 256) (he : ∀ _ : ¬ e.val < 128, e.val - 128 < 128) :
    (if h : e.val < 128 then 0 else A (ix3 l r ⟨e.val - 128, he h⟩)) = if e.val < 128 then 0 else wt A l.val r.val (e.val % 128) := by
  have hl := l.isLt; have hr := r.isLt; have hee := e.isLt
  split_ifs with h
  · rfl
  · unfold wt
    refine congrArg A (funext fun a => ?_)
    fin_cases a <;> refine Fin.ext ?_ <;> simp [ix3] <;> omega

/-- Row `r` of block `l`, at column `k`, of the blocks whose first entry is `q`. -/
def diag (A : FVec Ideal S32x64x128 .f32) (q k l r : ℕ) : EReal :=
  if r / 64 = k / 128 then wt A (l + q) (r % 64) (k % 128) else 0

set_option maxHeartbeats 8000000 in
theorem halves_at (X : Valuation τ sig (Elt Ideal)) (i : Fin 2048) (k : Fin 256) :
    ((show FVec Ideal S2048x256 .f32 from upto hostOps0 X 230 (Proc.devRef .tc main_v115)) (ix2 i k)
      = diag (X (Proc.devRef .tc main_arg1)) 0 k.val (i.val / 128) (i.val % 128))
    ∧ ((show FVec Ideal S2048x256 .f32 from upto hostOps0 X 230 (Proc.devRef .tc main_v228)) (ix2 i k)
      = diag (X (Proc.devRef .tc main_arg1)) 16 k.val (i.val / 128) (i.val % 128)) := by
  constructor <;> after_reads_simp
  all_goals
    refine Cat.read_holds (s := S128x256) (t := S2048x256) (a := 0) ⟨rfl, by decide⟩ 128 rfl (by decide) (ix2 i k)
      [_, _, _, _, _, _, _, _, _, _, _, _, _, _, _, _] _ _ ?_
    refine ⟨?_, ?_, ?_, ?_, ?_, ?_, ?_, ?_, ?_, ?_, ?_, ?_, ?_, ?_, ?_, ?_, trivial⟩
    all_goals
      intro y hy
      idx_vars y
      have h0 : y1 = k := Fin.ext (hy 1 (by decide))
      subst h0
      refine (congrFun (binary_result' _ _ _ _ _) _).trans ?_
      refine piece_at _ _ (wt (X (Proc.devRef .tc main_arg1)) _) (fun r e => ?_) (fun r e => ?_) y0 y1
      all_goals
        after_reads_simp
        pointwise
      · exact left_eq (X (Proc.devRef .tc main_arg1)) _ r e (by omega)
      · exact right_eq (X (Proc.devRef .tc main_arg1)) _ r e (by omega)

/-- The two halves side by side. -/
theorem pair_at (P Q : FVec Ideal S2048x256 .f32) (A : FVec Ideal S32x64x128 .f32)
    (hP : ∀ (i : Fin 2048) (k : Fin 256), P (ix2 i k) = diag A 0 k.val (i.val / 128) (i.val % 128))
    (hQ : ∀ (i : Fin 2048) (k : Fin 256), Q (ix2 i k) = diag A 16 k.val (i.val / 128) (i.val % 128)) (i : Fin 2048) (k : Fin 512) :
    (truncf .bf16 (concatenate S2048x512 1 [⟨S2048x256, P⟩, ⟨S2048x256, Q⟩] concatenates_S2048x256_S2048x256_S2048x512_d1) bitsLt_bf16_f32 : FVec Ideal S2048x512 .bf16) (ix2 i k)
    = if i.val % 128 / 64 = k.val % 256 / 128 then wt A (k.val / 256 * 16 + i.val / 128) (i.val % 64) (k.val % 128) else 0 := by
  have hk := k.isLt
  pointwise
  simp only [hP, hQ, diag]
  by_cases h : k.val < 256
  · rw [dif_pos h, show k.val % 256 = k.val by omega, show i.val % 128 % 64 = i.val % 64 by omega,
      show k.val / 256 * 16 + i.val / 128 = i.val / 128 + 0 by omega]
  · rw [dif_neg h, show k.val % 256 = k.val - 256 by omega, show i.val % 128 % 64 = i.val % 64 by omega,
      show k.val / 256 * 16 + i.val / 128 = i.val / 128 + 16 by omega, show (k.val - 256) % 128 = k.val % 128 by omega]

/-- The weights as the kernel reads them. -/
theorem v230_at (X : Valuation τ sig (Elt Ideal)) (i : Fin 2048) (k : Fin 512) :
    (show FVec Ideal S2048x512 .bf16 from after hostOps0 X (Proc.devRef .tc main_v230)) (ix2 i k)
    = if i.val % 128 / 64 = k.val % 256 / 128 then wt (X (Proc.devRef .tc main_arg1)) (k.val / 256 * 16 + i.val / 128) (i.val % 64) (k.val % 128) else 0 := by
  after_reads_simp
  exact pair_at _ _ _ (fun i k => (halves_at X i k).1) (fun i k => (halves_at X i k).2) i k

end Cert.CabRead

end
-- ==== Proof.CabRef.lean ====
/-
  The fourth reference (the first layer of the block compression) read at an index: for one half of the weights, the
  sum over a chunk's sixteen rows and the sixty-four entries of a key head.
-/
module

public import proofs.«01_k».proof.Proof.Gen.Reference4Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.CabRef

open Cert.Reference4Ideal Cert.Reference4Ideal.Gen

/-- The product of every chunk of rows with one half of the weights. -/
def hid (A : FVec Ideal S8x2048x128 .f32) (W : FVec Ideal S16x64x128 .f32) : FVec Ideal S8x128x256 .f32 :=
  shapeCast _ (Host.dotGeneral dot_S8x128x16x2x64_S16x64x128_S8x128x2x128_42_10_013_2_n_n none (shapeCast _ A shapeCasts_S8x2048x128_S8x128x16x2x64) W) shapeCasts_S8x128x2x128_S8x128x256

theorem hid_at (A : FVec Ideal S8x2048x128 .f32) (W : FVec Ideal S16x64x128 .f32) (b : Fin 8) (n : Fin 128) (e : Fin 256) :
    hid A W (ix3 b n e) = ∑ l : Fin 16, ∑ d : Fin 64, A (ix3 b ⟨n.val * 16 + l.val, by omega⟩ ⟨e.val / 128 * 64 + d.val, by omega⟩) * W (ix3 l d ⟨e.val % 128, by omega⟩) := by
  unfold hid
  pointwise
  exact Finset.sum_comm

end Cert.CabRef

end
-- ==== Proof.CabSum.lean ====
/-
  A sum over the sixteen entries of a chunk and their 128 columns, against weights that are zero off one half of the
  columns: the sum over that half.
-/
module

public import Idealize.ShloMosaic.Lib.Pointwise

@[expose] public section

noncomputable section

open Idealize.ShloMosaic

namespace Cert.CabSum

theorem half (g w : ℕ → EReal) (q : Fin 2) :
    ∑ k : Fin 128, g k.val * (if k.val / 64 = q.val then w (k.val % 64) else 0) = ∑ d : Fin 64, g (q.val * 64 + d.val) * w d.val := by
  rw [← Equiv.sum_comp (finProdFinEquiv (m := 2) (n := 64)), Fintype.sum_prod_type]
  rw [Finset.sum_eq_single q]
  · refine Finset.sum_congr rfl fun d _ => ?_
    have hd := d.isLt
    simp only [finProdFinEquiv_apply_val]
    rw [if_pos (by omega), show (d.val + 64 * q.val) % 64 = d.val by omega, show d.val + 64 * q.val = q.val * 64 + d.val by omega]
  · intro x _ hx
    refine Finset.sum_eq_zero fun d _ => ?_
    have hd := d.isLt
    have hne : x.val ≠ q.val := fun h => hx (Fin.ext h)
    simp only [finProdFinEquiv_apply_val]
    rw [if_neg (by omega), mul_zero]
  · exact fun h => absurd (Finset.mem_univ _) h

theorem all (g w : ℕ → ℕ → EReal) (q : Fin 2) :
    ∑ k : Fin 2048, g (k.val / 128) (k.val % 128) * (if k.val % 128 / 64 = q.val then w (k.val / 128) (k.val % 64) else 0)
      = ∑ l : Fin 16, ∑ d : Fin 64, g l.val (q.val * 64 + d.val) * w l.val d.val := by
  rw [← Equiv.sum_comp (finProdFinEquiv (m := 16) (n := 128)), Fintype.sum_prod_type]
  refine Finset.sum_congr rfl fun l _ => ?_
  rw [← half (g l.val) (w l.val) q]
  refine Finset.sum_congr rfl fun k _ => ?_
  have hk := k.isLt
  simp only [finProdFinEquiv_apply_val]
  rw [show (k.val + 128 * l.val) / 128 = l.val by omega, show (k.val + 128 * l.val) % 128 = k.val by omega,
    show (k.val + 128 * l.val) % 64 = k.val % 64 by omega]

end Cert.CabSum

end
-- ==== Proof.CabVal.lean ====
/-
  What the two result arrays of the compression's first layer hold: at every index the values the reference computes.
-/
module

public import proofs.«01_k».proof.Proof.CabPay
public import proofs.«01_k».proof.Proof.CabRead
public import proofs.«01_k».proof.Proof.CabRef
public import proofs.«01_k».proof.Proof.CabSum
public import Idealize.ShloMosaic.Lib.Pipeline.ValueKit
public import Idealize.ShloMosaic.Lib.Pipeline.ReadBack
public import Idealize.ShloMosaic.Lib.WholeRead
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CabVal

open Cert.Kernel4Ideal Cert.Kernel4Ideal.Gen

variable (m : (ℓ : Loc nD τ sig) → Buf (Elt Ideal) ℓ)
abbrev ar0 (c : Dev nD) : FVec Ideal S8x2048x128 .f32 := m ((c.tc : Thread nD τ).loc main_arg0)
abbrev ar1 (c : Dev nD) : FVec Ideal S32x64x128 .f32 := m ((c.tc : Thread nD τ).loc main_arg1)
variable (c : Dev nD) (t : Fin cfg0.N)

theorem v230_at (i : Fin 2048) (k : Fin 512) : (show FVec Ideal S2048x512 .bf16 from V m c main_v230) (ix2 i k)
    = if i.val % 128 / 64 = k.val % 256 / 128 then ar1 m c (ix3 ⟨k.val / 256 * 16 + i.val / 128, by omega⟩ ⟨i.val % 64, by omega⟩ ⟨k.val % 128, by omega⟩) else 0 := by
  refine (CabRead.v230_at (fun b => m (c, b)) i k).trans ?_
  have hi := i.isLt; have hk := k.isLt
  split_ifs
  · unfold CabRead.wt
    refine congrArg (ar1 m c) (funext fun a => ?_)
    fin_cases a <;> refine Fin.ext ?_ <;> simp [ix3] <;> omega
  · rfl

theorem idx : ∀ t : Fin cfg0.N, win0_0.index t = ![t.val, 0, 0] ∧ win0_1.index t = ![0, 0] ∧ win0_2.index t = ![t.val, 0, 0]
    ∧ win0_3.index t = ![t.val, 0, 0] :=
  (by decide +kernel : ∀ t : Fin grid0.N, _)

theorem b0 (i : Fin 2048) (k : Fin 128) : (show FVec Ideal S1x2048x128 .f32 from iblk m c 0 t) (ix3 0 i k) = ar0 m c (ix3 t i k) := by
  blk_ext [iblk, V, idx t]

theorem b1 (i : Fin 2048) (k : Fin 512) : (show FVec Ideal S2048x512 .bf16 from iblk m c 1 t) (ix2 i k) = (show FVec Ideal S2048x512 .bf16 from V m c main_v230) (ix2 i k) := by
  blk_ext [iblk, idx t]

theorem emb2 (i : Fin 128) (j : Fin 256) : ((View.whole main_v231_0).slice (win0_2.rect t)).emb (ix3 0 i j) = ix3 t i j := by
  blk_ext [idx t]

theorem emb3 (i : Fin 128) (j : Fin 256) : ((View.whole main_v231_1).slice (win0_3.rect t)).emb (ix3 0 i j) = ix3 t i j := by
  blk_ext [idx t]

/-- The reference's halves of the weights. -/
abbrev W0 : FVec Ideal Cert.Reference4Ideal.S16x64x128 .f32 := extractStridedSlice Cert.Reference4Ideal.S16x64x128 ![0, 0, 0] (ar1 m c) Cert.Reference4Ideal.Gen.slices_S32x64x128_S16x64x128_0_0_0
abbrev W1 : FVec Ideal Cert.Reference4Ideal.S16x64x128 .f32 := extractStridedSlice Cert.Reference4Ideal.S16x64x128 ![16, 0, 0] (ar1 m c) Cert.Reference4Ideal.Gen.slices_S32x64x128_S16x64x128_16_0_0

/-- Entry `l` of every chunk of a block of rows. -/
abbrev pick (l : Fin 16) : FVec Ideal S1x128x128 .f32 :=
  View.readAt (Elt Ideal) (ms0_0 t).view
    { off := ![0, l.val, 0], size := ![1, 128, 128], stride := ![1, 16, 1],
      inb := fun a => .inr (by have h := l.isLt; fin_cases a <;> simp <;> omega) }
    ((hs0_0 t).unread (iblk m c 0 t))

/-- Entry `l` of chunk `n` of a block of rows, at column `d`. -/
def entry (l : ℕ) (n : Fin 128) (d : ℕ) : EReal :=
  ar0 m c (ix3 t ⟨(n.val * 16 + l) % 2048, Nat.mod_lt _ (by decide)⟩ ⟨d % 128, Nat.mod_lt _ (by decide)⟩)

theorem pick_at (l : Fin 16) (n d : Fin 128) : pick m c t l (ix3 0 n d) = entry m c t l.val n d.val := by
  refine ((hs0_0 t).readAt_unread _ _ _).trans (Eq.trans (congrArg _ ?_) (b0 m c t ⟨n.val * 16 + l.val, by omega⟩ d)|>.trans ?_)
  · funext a
    fin_cases a <;> refine Fin.ext ?_ <;> simp [ix3] <;> omega
  · unfold entry
    have hl := l.isLt; have hn := n.isLt; have hd := d.isLt
    exact congrArg₂ (fun x y => ar0 m c (ix3 t x y)) (Fin.ext (by simp only []; omega)) (Fin.ext (by simp only []; omega))

/-- A block's product with one half of the weights, as the reference computes it. -/
theorem hid_eq (W : FVec Ideal Cert.Reference4Ideal.S16x64x128 .f32) (Z : Fin 2048 → EReal) (n : Fin 128) (e : Fin 256)
    (hZ : ∀ k : Fin 2048, Z k = if k.val % 128 / 64 = e.val / 128 then W (ix3 ⟨k.val / 128, by omega⟩ ⟨k.val % 64, by omega⟩ ⟨e.val % 128, by omega⟩) else 0) :
    ∑ k : Fin 2048, entry m c t (k.val / 128) n (k.val % 128) * Z k = CabRef.hid (ar0 m c) W (ix3 t n e) := by
  refine Eq.trans ?_ (CabRef.hid_at (ar0 m c) W t n e).symm
  refine Eq.trans ?_ ((CabSum.all (fun l d => entry m c t l n d)
    (fun l d => W (ix3 ⟨l % 16, Nat.mod_lt _ (by decide)⟩ ⟨d % 64, Nat.mod_lt _ (by decide)⟩ ⟨e.val % 128, by omega⟩)) ⟨e.val / 128, by omega⟩).trans ?_)
  · refine Finset.sum_congr rfl fun k _ => congrArg _ ((hZ k).trans ?_)
    have hk := k.isLt
    split_ifs
    · exact congrArg₂ (fun x y => W (ix3 x y _)) (Fin.ext (by simp only []; omega)) (Fin.ext (by simp only []; omega))
    · rfl
  · refine Finset.sum_congr rfl fun l _ => Finset.sum_congr rfl fun d _ => congrArg₂ (· * ·) ?_ ?_
    · unfold entry
      have hl := l.isLt; have hn := n.isLt; have hd := d.isLt; have he := e.isLt
      exact congrArg₂ (fun x y => ar0 m c (ix3 t x y)) (Fin.ext (by simp only []; omega)) (Fin.ext (by simp only []; omega))
    · have hl := l.isLt; have hd := d.isLt
      exact congrArg₂ (fun x y => W (ix3 x y _)) (Fin.ext (by simp only []; omega)) (Fin.ext (by simp only []; omega))

theorem final2 : (dats m 0 c).arrAt 2 cfg0.N = CabRef.hid (ar0 m c) (W0 m c) := by
  refine (dats m 0 c).arrAt_eq_of_covers 2 _ (by decide +kernel) fun t hf y => ?_
  blk_simp
  rw [after0_2]
  dsimp only [outsAt0]
  frame_out
  idx_vars y
  obtain rfl : y0 = 0 := Fin.eq_zero y0
  rw [emb2]
  refine (CabPay.low_at _ _ y1 y2).trans (Eq.trans ?_ (hid_eq m c t (W0 m c) (fun k => (show FVec Ideal S2048x512 .bf16 from V m c main_v230) (ix2 k ⟨y2.val, by omega⟩)) y1 y2 fun k => (v230_at m c k _).trans ?_))
  · exact Finset.sum_congr rfl fun k _ => congrArg₂ (· * ·) (CabPay.rows_at (entry m c t) (pick m c t) (pick_at m c t) y1 k) (b1 m c t k _)
  · have h2 := y2.isLt
    simp only [show y2.val % 256 = y2.val by omega]
    split_ifs
    · pointwise
      refine congrArg (ar1 m c) (funext fun a => ?_)
      have hk := k.isLt
      fin_cases a <;> refine Fin.ext ?_ <;> simp [ix3] <;> omega
    · rfl

theorem final3 : (dats m 0 c).arrAt 3 cfg0.N = CabRef.hid (ar0 m c) (W1 m c) := by
  refine (dats m 0 c).arrAt_eq_of_covers 3 _ (by decide +kernel) fun t hf y => ?_
  blk_simp
  rw [after0_3]
  dsimp only [outsAt0]
  frame_out
  idx_vars y
  obtain rfl : y0 = 0 := Fin.eq_zero y0
  rw [emb3]
  refine (CabPay.high_at _ _ y1 y2).trans (Eq.trans ?_ (hid_eq m c t (W1 m c) (fun k => (show FVec Ideal S2048x512 .bf16 from V m c main_v230) (ix2 k ⟨256 + y2.val, by omega⟩)) y1 y2 fun k => (v230_at m c k _).trans ?_))
  · exact Finset.sum_congr rfl fun k _ => congrArg₂ (· * ·) (CabPay.rows_at (entry m c t) (pick m c t) (pick_at m c t) y1 k) (b1 m c t k _)
  · have h2 := y2.isLt
    simp only [show (256 + y2.val) % 256 = y2.val by omega]
    split_ifs
    · pointwise
      refine congrArg (ar1 m c) (funext fun a => ?_)
      have hk := k.isLt
      fin_cases a <;> refine Fin.ext ?_ <;> simp [ix3] <;> omega
    · rfl

end Cert.CabVal

end
-- ==== Proof.CabClaim.lean ====
/-
  The equation of the compression's first layer and its reference: both end with the same two arrays.
-/
module

public import proofs.«01_k».proof.Defs
public import proofs.«01_k».proof.Proof.CabVal
public import Idealize.ShloMosaic.Lib.Claim

@[expose] public section

set_option maxRecDepth 16384
set_option maxHeartbeats 2000000

noncomputable section

open Idealize.ShloMosaic Idealize.SL.Sem

namespace Cert.CabClaim

theorem algebraic4 : algebraic_Kernel4Ideal_Reference4Ideal (hKernel4Ideal := Cert.Kernel4Ideal.Gen.facts)
    (hReference4Ideal := Cert.Reference4Ideal.Gen.facts) := by
  pair_intro
  · run_from Cert.Kernel4Ideal.Value.run_blocks (F := Ideal) m g
  · run_from Cert.Reference4Ideal.Value.run (F := Ideal) m' g'
    all_goals obtain ⟨h0, h1⟩ := hagree c
    all_goals try rw [h0, h1]
    · exact (CabVal.final2 m c).symm
    · exact (CabVal.final3 m c).symm

end Cert.CabClaim

end
-- ==== Proof.Row.lean ====
/-
  The row functions of the layer at the extended reals: the root-mean-square normalization of a row, the row of the
  output projection with its residual, and the gated feed-forward row. Both programs of a claim are read down to these.
-/
module

public import Idealize.ShloMosaic.PureOps.Ideal

@[expose] public section

noncomputable section

open Idealize.ShloMosaic

namespace Cert.Row

/-- The normalization's small constant, as its f32 word names it. -/
abbrev eps : EReal := Ideal.ofBits .f32 0x358637BD#32

/-- Root-mean-square normalization of the row `a` with gain `g`, at position `j`; `n` is the row's length as a float. -/
def rms {ι : Type} [Fintype ι] (n : EReal) (a g : ι → EReal) (j : ι) : EReal :=
  a j * Ideal.rsqrt (Ideal.div (∑ k, a k * a k) n + eps) * g j

/-- One entry `x` of a normalized row `a` with its gain `g`. -/
def entry {ι : Type} [Fintype ι] (n x : EReal) (a : ι → EReal) (g : EReal) : EReal :=
  x * Ideal.rsqrt (Ideal.div (∑ k, a k * a k) n + eps) * g

/-- A sum over 128 lanes of which the upper half is masked. -/
theorem sum_low (f : Fin 128 → EReal) : ∑ k : Fin 128, (if k.val < 64 then f k else 0) = ∑ d : Fin 64, f ⟨d.val, by omega⟩ := by
  rw [show (∑ k : Fin 128, (if k.val < 64 then f k else 0)) = ∑ k : Fin (64 + 64), (if k.val < 64 then f k else 0) from rfl, Fin.sum_univ_add]
  simp only [Fin.val_castAdd, Fin.is_lt, if_true, Fin.val_natAdd]
  rw [Finset.sum_eq_zero (s := Finset.univ) (f := fun x : Fin 64 => if 64 + x.val < 64 then f (Fin.natAdd 64 x) else 0)
    (fun x _ => if_neg (by omega)), add_zero]
  rfl

/-- A sum over 128 lanes of which the lower half is masked. -/
theorem sum_high (f : Fin 128 → EReal) : ∑ k : Fin 128, (if k.val < 64 then 0 else f k) = ∑ d : Fin 64, f ⟨64 + d.val, by omega⟩ := by
  rw [show (∑ k : Fin 128, (if k.val < 64 then 0 else f k)) = ∑ k : Fin (64 + 64), (if k.val < 64 then 0 else f k) from rfl, Fin.sum_univ_add]
  simp only [Fin.val_castAdd, Fin.is_lt, if_true, Fin.val_natAdd, Finset.sum_const_zero, zero_add]
  exact Finset.sum_congr rfl fun x _ => if_neg (by omega)

end Cert.Row

end
-- ==== Proof.FfnPay.lean ====
/-
  What one grid step of the feed-forward kernel computes, read at an index: the normalized convolution, the residual
  stream, the normalized stream and one chunk of the hidden layer.
-/
module

public import proofs.«01_k».proof.Proof.Gen.Kernel2Ideal.Value
public import proofs.«01_k».proof.Proof.Row
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.FfnPay

open Cert.Kernel2Ideal Cert.Kernel2Ideal.Gen

variable (H : FVec Ideal S512x1024 .bf16) (wg wu : FVec Ideal S1x1024x256 .bf16) (acc : FVec Ideal S512x1024 .f32) (wd : FVec Ideal S1x256x1024 .bf16)

/-! The eleven column chunks of the hidden layer are cut at different points of the program; each is one function of the
normalized rows, the chunk's three weights and the sum so far. -/

theorem chunk11 : k0_pay11 H wg wu acc wd = k0_pay8 H wg wu acc wd := rfl

theorem chunk14 : k0_pay14 H wg wu acc wd = k0_pay8 H wg wu acc wd := rfl

theorem chunk15 : k0_pay15 H wg wu acc wd = k0_pay8 H wg wu acc wd := rfl

theorem chunk19 : k0_pay19 H wg wu acc wd = k0_pay8 H wg wu acc wd := rfl

theorem chunk23 : k0_pay23 H wg wu acc wd = k0_pay8 H wg wu acc wd := rfl

theorem chunk10 : k0_pay10 acc (k0_pay9 H wg wu) wd = k0_pay8 H wg wu acc wd := rfl

theorem chunk13 : k0_pay13 H (k0_pay12 H wg) wu acc wd = k0_pay8 H wg wu acc wd := rfl

theorem chunk18 : k0_pay18 acc (k0_pay16 H wg wu) (k0_pay17 wd) = k0_pay8 H wg wu acc wd := rfl

theorem chunk22 : k0_pay22 (k0_pay20 H wg) (k0_pay21 H wu) acc wd = k0_pay8 H wg wu acc wd := rfl

theorem chunk1 : k0_pay1 H (k0_pay24 wg) (constant S512x256 .f32 0x00000000#32) wu acc wd = k0_pay8 H wg wu acc wd := rfl

/-- One hidden unit: the gated product of the two projections of a row. -/
def unit (h g u : Fin 1024 → EReal) : EReal :=
  (∑ k, h k * g k) * Ideal.logistic (∑ k, h k * g k) * (∑ k, h k * u k)

theorem chunk_at (i : Fin 512) (j : Fin 1024) :
    k0_pay8 H wg wu acc wd (ix2 i j) = acc (ix2 i j) + ∑ k : Fin 256,
      unit (fun c => H (ix2 i c)) (fun c => wg (ix3 0 c k)) (fun c => wu (ix3 0 c k)) * wd (ix3 0 k j) := by
  unfold k0_pay8 unit
  pointwise

theorem start_at (i : Fin 512) (j : Fin 1024) : k0_pay7 (F := Ideal) k0_pay6 (ix2 i j) = 0 := by
  unfold k0_pay7 k0_pay6
  pointwise

theorem total_at (x : FVec Ideal S512x1024 .f32) (i : Fin 512) (j : Fin 1024) :
    k0_pay2 x acc (ix2 i j) = x (ix2 i j) + acc (ix2 i j) := by
  unfold k0_pay2
  pointwise

variable (v0 v6 v13 v19 : FVec Ideal S512x512 .f32) (v2 v8 v14 v21 : FVec Ideal S1x512 .f32)

/-- The gated convolution of a block, normalized. -/
theorem conv_at (i : Fin 512) (j : Fin 512) :
    (k0_pay3 (F := Ideal) v0 v2 v6 v8 v13 v14 v19 v21 : FVec Ideal S512x512 .bf16) (ix2 i j) = Row.rms (Ideal.ofBits .f32 0x44000000#32)
      (fun k : Fin 512 => v19 (ix2 i k) * (v0 (ix2 i k) * v2 (ix2 0 k) + v6 (ix2 i k) * v8 (ix2 0 k) + v13 (ix2 i k) * v14 (ix2 0 k)))
      (fun k => v21 (ix2 0 k)) j := by
  unfold k0_pay3 Row.rms
  pointwise

variable (yc : FVec Ideal S512x512 .bf16) (oa : FVec Ideal S512x512 .f32) (na : FVec Ideal S1x512 .f32)
  (x : FVec Ideal S512x1024 .f32) (wt wb : FVec Ideal S512x1024 .bf16) (nf : FVec Ideal S1x1024 .f32)

/-- The residual stream of a block. -/
theorem stream_at (i : Fin 512) (j : Fin 1024) :
    k0_pay4 yc oa na x wt wb (ix2 i j) = x (ix2 i j) + (∑ k : Fin 512, yc (ix2 i k) * wt (ix2 k j)
      + ∑ k : Fin 512, Row.rms (Ideal.ofBits .f32 0x44000000#32) (fun k : Fin 512 => oa (ix2 i k)) (fun k => na (ix2 0 k)) k
        * wb (ix2 k j)) := by
  unfold k0_pay4 Row.rms
  pointwise

theorem normed_at (i : Fin 512) (j : Fin 1024) :
    k0_pay5 yc oa na x wt wb nf (ix2 i j) = Row.rms (Ideal.ofBits .f32 0x44800000#32)
      (fun k : Fin 1024 => k0_pay4 yc oa na x wt wb (ix2 i k)) (fun k => nf (ix2 0 k)) j := by
  unfold k0_pay5 Row.rms
  pointwise

end Cert.FfnPay

end
-- ==== Proof.FfnRef.lean ====
/-
  The second reference (output projection and feed-forward part) read in stages: the gated convolution, the two
  normalized halves, the residual stream, the normalized stream, the result. Each stage is one definition over array
  variables, read at an index.
-/
module

public import proofs.«01_k».proof.Proof.Gen.Reference2Ideal.Run
public import proofs.«01_k».proof.Proof.Row
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.FfnRef

open Cert.Reference2Ideal Cert.Reference2Ideal.Gen

/-- The gated causal convolution. -/
def yc (A1 A2 : FVec Ideal S16384x512 .f32) (A4 : FVec Ideal S3x512 .f32) : FVec Ideal S16384x512 .f32 :=
  (mulf A1 (shapeCast _ (addf (addf (addf (broadcastInDim S8x2048x512 ![] bcast_S_S8x2048x512 (constant S_ .f32 0x00000000#32)) (mulf (extractStridedSlice S8x2048x512 ![0, 0, 0] (concatenate S8x2050x512 1 [⟨S8x2x512, (broadcastInDim S8x2x512 ![] bcast_S_S8x2x512 (constant S_ .f32 0x00000000#32))⟩, ⟨S8x2048x512, (shapeCast _ A2 shapeCasts_S16384x512_S8x2048x512)⟩] concatenates_S8x2x512_S8x2048x512_S8x2050x512_d1) slices_S8x2050x512_S8x2048x512_0_0_0) (broadcastInDim S8x2048x512 ![0, 1, 2] bcast_S1x1x512_S8x2048x512_0_1_2 (broadcastInDim S1x1x512 ![2] bcast_S512_S1x1x512_2 (shapeCast _ (extractStridedSlice S1x512 ![0, 0] A4 slices_S3x512_S1x512_0_0) shapeCasts_S1x512_S512))))) (mulf (extractStridedSlice S8x2048x512 ![0, 1, 0] (concatenate S8x2050x512 1 [⟨S8x2x512, (broadcastInDim S8x2x512 ![] bcast_S_S8x2x512 (constant S_ .f32 0x00000000#32))⟩, ⟨S8x2048x512, (shapeCast _ A2 shapeCasts_S16384x512_S8x2048x512)⟩] concatenates_S8x2x512_S8x2048x512_S8x2050x512_d1) slices_S8x2050x512_S8x2048x512_0_1_0) (broadcastInDim S8x2048x512 ![0, 1, 2] bcast_S1x1x512_S8x2048x512_0_1_2 (broadcastInDim S1x1x512 ![2] bcast_S512_S1x1x512_2 (shapeCast _ (extractStridedSlice S1x512 ![1, 0] A4 slices_S3x512_S1x512_1_0) shapeCasts_S1x512_S512))))) (mulf (extractStridedSlice S8x2048x512 ![0, 2, 0] (concatenate S8x2050x512 1 [⟨S8x2x512, (broadcastInDim S8x2x512 ![] bcast_S_S8x2x512 (constant S_ .f32 0x00000000#32))⟩, ⟨S8x2048x512, (shapeCast _ A2 shapeCasts_S16384x512_S8x2048x512)⟩] concatenates_S8x2x512_S8x2048x512_S8x2050x512_d1) slices_S8x2050x512_S8x2048x512_0_2_0) (broadcastInDim S8x2048x512 ![0, 1, 2] bcast_S1x1x512_S8x2048x512_0_1_2 (broadcastInDim S1x1x512 ![2] bcast_S512_S1x1x512_2 (shapeCast _ (extractStridedSlice S1x512 ![2, 0] A4 slices_S3x512_S1x512_2_0) shapeCasts_S1x512_S512))))) shapeCasts_S8x2048x512_S16384x512))

/-- The normalization of 512-wide rows. -/
def rms512 (X : FVec Ideal S16384x512 .f32) (g : FVec Ideal S512 .f32) : FVec Ideal S16384x512 .f32 :=
  (mulf (mulf X (broadcastInDim S16384x512 ![0, 1] bcast_S16384x1_S16384x512_0_1 (Host.rsqrt (addf (Host.divf (broadcastInDim S16384x1 ![0] bcast_S16384_S16384x1_0 (Host.reduceAdd (mulf X X) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32)))))) (broadcastInDim S16384x512 ![0, 1] bcast_S1x512_S16384x512_0_1 (broadcastInDim S1x512 ![1] bcast_S512_S1x512_1 g)))

/-- The normalization of 1024-wide rows. -/
def rms1024 (X1 : FVec Ideal S16384x1024 .f32) (g : FVec Ideal S1024 .f32) : FVec Ideal S16384x1024 .f32 :=
  (mulf (mulf X1 (broadcastInDim S16384x1024 ![0, 1] bcast_S16384x1_S16384x1024_0_1 (Host.rsqrt (addf (Host.divf (broadcastInDim S16384x1 ![0] bcast_S16384_S16384x1_0 (Host.reduceAdd (mulf X1 X1) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g)))

/-- The residual stream after the output projection. -/
def x1 (A0 : FVec Ideal S16384x1024 .f32) (RC RO : FVec Ideal S16384x512 .f32) (A7 : FVec Ideal S1024x1024 .f32) :
    FVec Ideal S16384x1024 .f32 :=
  (addf A0 (Host.dotGeneral dot_S16384x1024_S1024x1024_S16384x1024_1_0_0_1_n_n none (concatenate S16384x1024 1 [⟨S16384x512, RC⟩, ⟨S16384x512, RO⟩] concatenates_S16384x512_S16384x512_S16384x1024_d1) A7))

/-- The gated hidden row. -/
def act (H2 : FVec Ideal S16384x1024 .f32) (A9 A10 : FVec Ideal S1024x2816 .f32) : FVec Ideal S16384x2816 .f32 :=
  (mulf (mulf (Host.dotGeneral dot_S16384x1024_S1024x2816_S16384x2816_1_0_0_1_n_n none H2 A9) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (Host.dotGeneral dot_S16384x1024_S1024x2816_S16384x2816_1_0_0_1_n_n none H2 A9)))))) (Host.dotGeneral dot_S16384x1024_S1024x2816_S16384x2816_1_0_0_1_n_n none H2 A10))

/-- The feed-forward part added to the residual stream. -/
def out (X1 : FVec Ideal S16384x1024 .f32) (ACT : FVec Ideal S16384x2816 .f32) (A11 : FVec Ideal S2816x1024 .f32) :
    FVec Ideal S16384x1024 .f32 :=
  addf X1 (Host.dotGeneral dot_S16384x2816_S2816x1024_S16384x1024_1_0_0_1_n_n none ACT A11)

/-- The whole composition. -/
def ref (A0 : FVec Ideal S16384x1024 .f32) (A1 A2 A3 : FVec Ideal S16384x512 .f32) (A4 : FVec Ideal S3x512 .f32)
    (A5 A6 : FVec Ideal S512 .f32) (A7 : FVec Ideal S1024x1024 .f32) (A8 : FVec Ideal S1024 .f32)
    (A9 A10 : FVec Ideal S1024x2816 .f32) (A11 : FVec Ideal S2816x1024 .f32) : FVec Ideal S16384x1024 .f32 :=
  let X1 := x1 A0 (rms512 (yc A1 A2 A4) A5) (rms512 A3 A6) A7
  out X1 (act (rms1024 X1 A8) A9 A10) A11

theorem res_eq (m : (ℓ : Loc nD τ sig) → Buf (Elt Ideal) ℓ) (c : Dev nD) :
    Value.res_out0 (F := Ideal) m c = ref (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) := rfl

theorem rms512_at (X : FVec Ideal S16384x512 .f32) (g : FVec Ideal S512 .f32) (i : Fin 16384) (j : Fin 512) :
    rms512 X g (ix2 i j) = Row.rms (Ideal.ofBits .f32 0x44000000#32) (fun k : Fin 512 => X (ix2 i k)) (fun k => g (ix1 k)) j := by
  unfold rms512 Row.rms
  pointwise

theorem rms1024_at (X : FVec Ideal S16384x1024 .f32) (g : FVec Ideal S1024 .f32) (i : Fin 16384) (j : Fin 1024) :
    rms1024 X g (ix2 i j) = Row.rms (Ideal.ofBits .f32 0x44800000#32) (fun k : Fin 1024 => X (ix2 i k)) (fun k => g (ix1 k)) j := by
  unfold rms1024 Row.rms
  pointwise

theorem x1_at (A0 : FVec Ideal S16384x1024 .f32) (RC RO : FVec Ideal S16384x512 .f32) (A7 : FVec Ideal S1024x1024 .f32)
    (i : Fin 16384) (j : Fin 1024) :
    x1 A0 RC RO A7 (ix2 i j) = A0 (ix2 i j) + (∑ k : Fin 512, RC (ix2 i k) * A7 (ix2 (Fin.castLE (by omega) k) j)
      + ∑ k : Fin 512, RO (ix2 i k) * A7 (ix2 (Fin.natAdd 512 k) j)) := by
  unfold x1
  pointwise
  rfl

theorem act_at (H2 : FVec Ideal S16384x1024 .f32) (A9 A10 : FVec Ideal S1024x2816 .f32) (i : Fin 16384) (f : Fin 2816) :
    act H2 A9 A10 (ix2 i f) = (∑ k : Fin 1024, H2 (ix2 i k) * A9 (ix2 k f))
      * Ideal.logistic (∑ k : Fin 1024, H2 (ix2 i k) * A9 (ix2 k f)) * (∑ k : Fin 1024, H2 (ix2 i k) * A10 (ix2 k f)) := by
  unfold act
  pointwise
  rfl

theorem out_at (X1 : FVec Ideal S16384x1024 .f32) (ACT : FVec Ideal S16384x2816 .f32) (A11 : FVec Ideal S2816x1024 .f32)
    (i : Fin 16384) (j : Fin 1024) :
    out X1 ACT A11 (ix2 i j) = X1 (ix2 i j) + ∑ f : Fin 2816, ACT (ix2 i f) * A11 (ix2 f j) := by
  unfold out
  pointwise

theorem yc_at (A1 A2 : FVec Ideal S16384x512 .f32) (A4 : FVec Ideal S3x512 .f32) (i : Fin 16384) (j : Fin 512) :
    yc A1 A2 A4 (ix2 i j) = A1 (ix2 i j)
      * ((if h : i.val % 2048 < 2 then 0 else A2 (ix2 ⟨i.val / 2048 * 2048 + (i.val % 2048 - 2), by omega⟩ j)) * A4 (ix2 0 j)
        + (if h : 1 + i.val % 2048 < 2 then 0 else A2 (ix2 ⟨i.val / 2048 * 2048 + (1 + i.val % 2048 - 2), by omega⟩ j)) * A4 (ix2 1 j)
        + A2 (ix2 i j) * A4 (ix2 2 j)) := by
  unfold yc
  pointwise

end Cert.FfnRef

end
-- ==== Proof.FfnRead.lean ====
/-
  What a grid step of the feed-forward kernel reads: every block and every load from it, over the arguments.
-/
module

public import proofs.«01_k».proof.Proof.FfnPay
public import proofs.«01_k».proof.Proof.FfnRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnRead

open Cert.Kernel2Ideal Cert.Kernel2Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![0, 0] ∧ win0_10.index t = ![0, 0]
    ∧ win0_11.index t = ![0, 0, 0] ∧ win0_12.index t = ![0, 0, 0] ∧ win0_13.index t = ![0, 0, 0] ∧ win0_14.index t = ![t.val, 0] :=
  (by decide +kernel : ∀ t : Fin grid0.N, _)

/-- A sum over the 2816 hidden units, chunk by chunk of 256. -/
theorem sum_chunks (g : Fin 2816 → EReal) : ∑ f, g f =
    ∑ p : Fin 11, ∑ k : Fin 256, g ⟨p.val * 256 + k.val, by omega⟩ := by
  have e : (Fin 11 × Fin 256) ≃ Fin 2816 := finProdFinEquiv
  have h := (Fintype.sum_equiv (finProdFinEquiv (m := 11) (n := 256)) (fun q => g ⟨q.1.val * 256 + q.2.val, by omega⟩)
    (fun f : Fin (11 * 256) => g f) (fun q => congrArg g (Fin.ext (by simp [finProdFinEquiv]; omega)))).symm
  exact h.trans (Fintype.sum_prod_type _)

abbrev ar0 (c : Dev nD) : FVec Ideal S16384x1024 .f32 := m ((c.tc : Thread nD τ).loc main_arg0)
abbrev ar1 (c : Dev nD) : FVec Ideal S16384x512 .f32 := m ((c.tc : Thread nD τ).loc main_arg1)
abbrev ar2 (c : Dev nD) : FVec Ideal S16384x512 .f32 := m ((c.tc : Thread nD τ).loc main_arg2)
abbrev ar3 (c : Dev nD) : FVec Ideal S16384x512 .f32 := m ((c.tc : Thread nD τ).loc main_arg3)
abbrev ar4 (c : Dev nD) : FVec Ideal S3x512 .f32 := m ((c.tc : Thread nD τ).loc main_arg4)
abbrev ar5 (c : Dev nD) : FVec Ideal S512 .f32 := m ((c.tc : Thread nD τ).loc main_arg5)
abbrev ar6 (c : Dev nD) : FVec Ideal S512 .f32 := m ((c.tc : Thread nD τ).loc main_arg6)
abbrev ar7 (c : Dev nD) : FVec Ideal S1024x1024 .f32 := m ((c.tc : Thread nD τ).loc main_arg7)
abbrev ar8 (c : Dev nD) : FVec Ideal S1024 .f32 := m ((c.tc : Thread nD τ).loc main_arg8)
abbrev ar9 (c : Dev nD) : FVec Ideal S1024x2816 .f32 := m ((c.tc : Thread nD τ).loc main_arg9)
abbrev ar10 (c : Dev nD) : FVec Ideal S1024x2816 .f32 := m ((c.tc : Thread nD τ).loc main_arg10)
abbrev ar11 (c : Dev nD) : FVec Ideal S2816x1024 .f32 := m ((c.tc : Thread nD τ).loc main_arg11)

/-- The row of the arrays a block's row is. -/
abbrev row (t : Fin cfg0.N) (i : Fin 512) : Fin 16384 := ⟨t.val * 512 + i.val, by have h : t.val < 32 := t.isLt; omega⟩

/-- The normalized convolution of a block. -/
abbrev convB (c : Dev nD) (t : Fin cfg0.N) : FVec Ideal S512x512 .bf16 :=
  k0_pay3 (F := Ideal) (iblk m c 4 t) (View.ld (iblk m c 6 t) (Rect.unit ![0, 0] ![1, 512] inb_S8x512_S1x512_0_0)) (iblk m c 3 t)
    (View.ld (iblk m c 6 t) (Rect.unit ![1, 0] ![1, 512] inb_S8x512_S1x512_1_0)) (iblk m c 2 t)
    (View.ld (iblk m c 6 t) (Rect.unit ![2, 0] ![1, 512] inb_S8x512_S1x512_2_0)) (iblk m c 1 t) (iblk m c 7 t)

section
variable (c : Dev nD) (t : Fin cfg0.N)

theorem b0 (i : Fin 512) (k : Fin 1024) : (show FVec Ideal S512x1024 .f32 from iblk m c 0 t) (ix2 i k) = ar0 m c (ix2 (row t i) k) := by
  blk_ext [iblk, V, idx t]

theorem b1 (i : Fin 512) (k : Fin 512) : (show FVec Ideal S512x512 .f32 from iblk m c 1 t) (ix2 i k) = ar1 m c (ix2 (row t i) k) := by
  blk_ext [iblk, V, idx t]

theorem b2 (i : Fin 512) (k : Fin 512) : (show FVec Ideal S512x512 .f32 from iblk m c 2 t) (ix2 i k) = ar2 m c (ix2 (row t i) k) := by
  blk_ext [iblk, V, idx t]

theorem b3 (i : Fin 512) (k : Fin 512) : (show FVec Ideal S512x512 .f32 from iblk m c 3 t) (ix2 i k) = (show FVec Ideal S16384x512 .f32 from V m c main_v18) (ix2 (row t i) k) := by
  blk_ext [iblk, idx t]

theorem b4 (i : Fin 512) (k : Fin 512) : (show FVec Ideal S512x512 .f32 from iblk m c 4 t) (ix2 i k) = (show FVec Ideal S16384x512 .f32 from V m c main_v19) (ix2 (row t i) k) := by
  blk_ext [iblk, idx t]

theorem b5 (i : Fin 512) (k : Fin 512) : (show FVec Ideal S512x512 .f32 from iblk m c 5 t) (ix2 i k) = ar3 m c (ix2 (row t i) k) := by
  blk_ext [iblk, V, idx t]

theorem v19_at (i : Fin 16384) (k : Fin 512) : (show FVec Ideal S16384x512 .f32 from V m c main_v19) (ix2 i k) =
   (if h : i.val % 2048 < 2 then 0 else ar2 m c (ix2 ⟨i.val / 2048 * 2048 + (i.val % 2048 - 2), by omega⟩ k)) := by
  simp only [V, hostOps0, hostOps0_1, hostOps0_2, List.flatten_cons, List.flatten_nil, List.append_nil, List.cons_append, List.nil_append]
  entry_read
  pointwise

theorem v18_at (i : Fin 16384) (k : Fin 512) : (show FVec Ideal S16384x512 .f32 from V m c main_v18) (ix2 i k) =
   (if h : 1 + i.val % 2048 < 2 then 0 else ar2 m c (ix2 ⟨i.val / 2048 * 2048 + (1 + i.val % 2048 - 2), by omega⟩ k)) := by
  simp only [V, hostOps0, hostOps0_1, hostOps0_2, List.flatten_cons, List.flatten_nil, List.append_nil, List.cons_append, List.nil_append]
  entry_read
  pointwise

theorem v7_at (p : Fin 11) (i : Fin 1024) (k : Fin 256) : (show FVec Ideal S11x1024x256 .bf16 from V m c main_v7) (ix3 p i k) = ar9 m c (ix2 i ⟨p.val * 256 + k.val, by omega⟩) := by
  simp only [V, hostOps0, hostOps0_1, hostOps0_2, List.flatten_cons, List.flatten_nil, List.append_nil, List.cons_append, List.nil_append]
  entry_read
  pointwise

theorem v10_at (p : Fin 11) (i : Fin 1024) (k : Fin 256) : (show FVec Ideal S11x1024x256 .bf16 from V m c main_v10) (ix3 p i k) = ar10 m c (ix2 i ⟨p.val * 256 + k.val, by omega⟩) := by
  simp only [V, hostOps0, hostOps0_1, hostOps0_2, List.flatten_cons, List.flatten_nil, List.append_nil, List.cons_append, List.nil_append]
  entry_read
  pointwise

theorem v12_at (p : Fin 11) (k : Fin 256) (i : Fin 1024) : (show FVec Ideal S11x256x1024 .bf16 from V m c main_v12) (ix3 p k i) = ar11 m c (ix2 ⟨p.val * 256 + k.val, by omega⟩ i) := by
  simp only [V, hostOps0, hostOps0_1, hostOps0_2, List.flatten_cons, List.flatten_nil, List.append_nil, List.cons_append, List.nil_append]
  entry_read
  pointwise

theorem v1_at (k : Fin 512) : (show FVec Ideal S1x512 .f32 from V m c main_v1) (ix2 0 k) = ar5 m c (ix1 k) := by
  simp only [V, hostOps0, hostOps0_1, hostOps0_2, List.flatten_cons, List.flatten_nil, List.append_nil, List.cons_append, List.nil_append]
  entry_read
  pointwise

theorem v2_at (k : Fin 512) : (show FVec Ideal S1x512 .f32 from V m c main_v2) (ix2 0 k) = ar6 m c (ix1 k) := by
  simp only [V, hostOps0, hostOps0_1, hostOps0_2, List.flatten_cons, List.flatten_nil, List.append_nil, List.cons_append, List.nil_append]
  entry_read
  pointwise

theorem v3_at (i k : Fin 1024) : (show FVec Ideal S1024x1024 .bf16 from V m c main_v3) (ix2 i k) = ar7 m c (ix2 i k) := by
  simp only [V, hostOps0, hostOps0_1, hostOps0_2, List.flatten_cons, List.flatten_nil, List.append_nil, List.cons_append, List.nil_append]
  entry_read
  pointwise

theorem v4_at (k : Fin 1024) : (show FVec Ideal S1x1024 .f32 from V m c main_v4) (ix2 0 k) = ar8 m c (ix1 k) := by
  simp only [V, hostOps0, hostOps0_1, hostOps0_2, List.flatten_cons, List.flatten_nil, List.append_nil, List.cons_append, List.nil_append]
  entry_read
  pointwise

theorem v0_at (r : Fin 3) (k : Fin 512) : (show FVec Ideal S8x512 .f32 from V m c main_v0) (ix2 (r.castLE (by omega)) k) = ar4 m c (ix2 r k) := by
  simp only [V, hostOps0, hostOps0_1, hostOps0_2, List.flatten_cons, List.flatten_nil, List.append_nil, List.cons_append, List.nil_append]
  entry_read
  show pad S8x512 ![0, 0] ![5, 0] ![0, 0] (ar4 m c) (sitofp .f32 (constantI S_ 32 0#32)) pads_S3x512_S8x512_050_000 h_S_ (ix2 (r.castLE (by omega)) k) = _
  pointwise
  rw [dif_pos (by simp)]
  rfl

theorem b6 (i : Fin 8) (k : Fin 512) : (show FVec Ideal S8x512 .f32 from iblk m c 6 t) (ix2 i k) = (show FVec Ideal S8x512 .f32 from V m c main_v0) (ix2 i k) := by
  blk_ext [iblk, idx t]

theorem b7 (k : Fin 512) : (show FVec Ideal S1x512 .f32 from iblk m c 7 t) (ix2 0 k) = (show FVec Ideal S1x512 .f32 from V m c main_v1) (ix2 0 k) := by
  blk_ext [iblk, idx t]

theorem b8 (k : Fin 512) : (show FVec Ideal S1x512 .f32 from iblk m c 8 t) (ix2 0 k) = (show FVec Ideal S1x512 .f32 from V m c main_v2) (ix2 0 k) := by
  blk_ext [iblk, idx t]

theorem b9 (i k : Fin 1024) : (show FVec Ideal S1024x1024 .bf16 from iblk m c 9 t) (ix2 i k) = (show FVec Ideal S1024x1024 .bf16 from V m c main_v3) (ix2 i k) := by
  blk_ext [iblk, idx t]

theorem b10 (k : Fin 1024) : (show FVec Ideal S1x1024 .f32 from iblk m c 10 t) (ix2 0 k) = (show FVec Ideal S1x1024 .f32 from V m c main_v4) (ix2 0 k) := by
  blk_ext [iblk, idx t]

theorem b11 (p : Fin 11) (i : Fin 1024) (k : Fin 256) : (show FVec Ideal S11x1024x256 .bf16 from iblk m c 11 t) (ix3 p i k) = (show FVec Ideal S11x1024x256 .bf16 from V m c main_v7) (ix3 p i k) := by
  blk_ext [iblk, idx t]

theorem b12 (p : Fin 11) (i : Fin 1024) (k : Fin 256) : (show FVec Ideal S11x1024x256 .bf16 from iblk m c 12 t) (ix3 p i k) = (show FVec Ideal S11x1024x256 .bf16 from V m c main_v10) (ix3 p i k) := by
  blk_ext [iblk, idx t]

theorem b13 (p : Fin 11) (i : Fin 256) (k : Fin 1024) : (show FVec Ideal S11x256x1024 .bf16 from iblk m c 13 t) (ix3 p i k) = (show FVec Ideal S11x256x1024 .bf16 from V m c main_v12) (ix3 p i k) := by
  blk_ext [iblk, idx t]

/-! Loads of one row, one half or one chunk of a block. -/

theorem taps_at (q : ℕ) (inb : ∀ a, (![q, 0] : Fin 2 → ℕ) a + (![1, 512] : Fin 2 → ℕ) a ≤ S8x512.size a) (k : Fin 512) (hq : q < 3) :
    View.ld (iblk m c 6 t) (Rect.unit ![q, 0] ![1, 512] inb) (ix2 0 k) = ar4 m c (ix2 ⟨q, hq⟩ k) :=
  (View.ld_unit_apply_of (S := S8x512) _ _ _ _ _ (ix2 (⟨q, by omega⟩ : Fin 8) k) (fun a => by fin_cases a <;> simp [ix2])).trans
    ((b6 m c t _ k).trans (v0_at m c ⟨q, hq⟩ k))

theorem top_at (inb : ∀ a, (![0, 0] : Fin 2 → ℕ) a + (![512, 1024] : Fin 2 → ℕ) a ≤ S1024x1024.size a) (i : Fin 512) (k : Fin 1024) :
    View.ld (iblk m c 9 t) (Rect.unit ![0, 0] ![512, 1024] inb) (ix2 i k) = ar7 m c (ix2 (Fin.castLE (by omega) i) k) :=
  (View.ld_unit_apply_of (S := S1024x1024) _ _ _ _ _ (ix2 (Fin.castLE (by omega) i : Fin 1024) k) (fun a => by fin_cases a <;> simp [ix2])).trans
    ((b9 m c t _ k).trans (v3_at m c _ k))

theorem bottom_at (inb : ∀ a, (![512, 0] : Fin 2 → ℕ) a + (![512, 1024] : Fin 2 → ℕ) a ≤ S1024x1024.size a) (i : Fin 512) (k : Fin 1024) :
    View.ld (iblk m c 9 t) (Rect.unit ![512, 0] ![512, 1024] inb) (ix2 i k) = ar7 m c (ix2 (Fin.natAdd 512 i) k) :=
  (View.ld_unit_apply_of (S := S1024x1024) _ _ _ _ _ (ix2 (Fin.natAdd 512 i : Fin 1024) k) (fun a => by fin_cases a <;> simp [ix2, Nat.add_comm])).trans
    ((b9 m c t _ k).trans (v3_at m c _ k))

theorem gate_at (q : ℕ) (inb : ∀ a, (![q, 0, 0] : Fin 3 → ℕ) a + (![1, 1024, 256] : Fin 3 → ℕ) a ≤ S11x1024x256.size a) (i : Fin 1024) (k : Fin 256) :
    View.ld (iblk m c 11 t) (Rect.unit ![q, 0, 0] ![1, 1024, 256] inb) (ix3 0 i k) = ar9 m c (ix2 i ⟨q * 256 + k.val, by have := inb 0; simp at this; omega⟩) :=
  (View.ld_unit_apply_of (S := S11x1024x256) _ _ _ _ _ (ix3 (⟨q, by have := inb 0; simp at this; omega⟩ : Fin 11) i k) (fun a => by fin_cases a <;> simp [ix3])).trans
    ((b11 m c t _ i k).trans (v7_at m c _ i k))

theorem up_at (q : ℕ) (inb : ∀ a, (![q, 0, 0] : Fin 3 → ℕ) a + (![1, 1024, 256] : Fin 3 → ℕ) a ≤ S11x1024x256.size a) (i : Fin 1024) (k : Fin 256) :
    View.ld (iblk m c 12 t) (Rect.unit ![q, 0, 0] ![1, 1024, 256] inb) (ix3 0 i k) = ar10 m c (ix2 i ⟨q * 256 + k.val, by have := inb 0; simp at this; omega⟩) :=
  (View.ld_unit_apply_of (S := S11x1024x256) _ _ _ _ _ (ix3 (⟨q, by have := inb 0; simp at this; omega⟩ : Fin 11) i k) (fun a => by fin_cases a <;> simp [ix3])).trans
    ((b12 m c t _ i k).trans (v10_at m c _ i k))

theorem down_at (q : ℕ) (inb : ∀ a, (![q, 0, 0] : Fin 3 → ℕ) a + (![1, 256, 1024] : Fin 3 → ℕ) a ≤ S11x256x1024.size a) (i : Fin 256) (k : Fin 1024) :
    View.ld (iblk m c 13 t) (Rect.unit ![q, 0, 0] ![1, 256, 1024] inb) (ix3 0 i k) = ar11 m c (ix2 ⟨q * 256 + i.val, by have := inb 0; simp at this; omega⟩ k) :=
  (View.ld_unit_apply_of (S := S11x256x1024) _ _ _ _ _ (ix3 (⟨q, by have := inb 0; simp at this; omega⟩ : Fin 11) i k) (fun a => by fin_cases a <;> simp [ix3])).trans
    ((b13 m c t _ i k).trans (v12_at m c _ i k))

end

theorem emb_at (t : Fin cfg0.N) (i : Fin 512) (j : Fin 1024) :
    ((View.whole main_v20).slice (win0_14.rect t)).emb (ix2 i j) = ix2 (row t i) j := by
  blk_ext [idx t]

end Cert.FfnRead

end
-- ==== Proof.FfnVal.lean ====
/-
  What the feed-forward kernel's result array holds: at every index the value the reference computes.
-/
module

public import proofs.«01_k».proof.Proof.FfnRead

@[expose] public section

set_option maxRecDepth 16384

noncomputable section

open Idealize.ShloMosaic Idealize.ShloMosaic.TcCoe Idealize.SL.Sem
open Idealize.ShloMosaic.Pipeline (Dat)

namespace Cert.FfnVal

open Cert.Kernel2Ideal Cert.Kernel2Ideal.Gen Cert.FfnRead

variable (m : (ℓ : Loc nD τ sig) → Buf (Elt Ideal) ℓ) (c : Dev nD) (t : Fin cfg0.N)

/-- The normalized convolution of a block. -/
abbrev convB : FVec Ideal S512x512 .bf16 :=
  k0_pay3 (F := Ideal) (iblk m c 4 t) (View.ld (iblk m c 6 t) (Rect.unit ![0, 0] ![1, 512] inb_S8x512_S1x512_0_0)) (iblk m c 3 t)
    (View.ld (iblk m c 6 t) (Rect.unit ![1, 0] ![1, 512] inb_S8x512_S1x512_1_0)) (iblk m c 2 t)
    (View.ld (iblk m c 6 t) (Rect.unit ![2, 0] ![1, 512] inb_S8x512_S1x512_2_0)) (iblk m c 1 t) (iblk m c 7 t)

/-- The reference's normalized convolution. -/
abbrev convA : FVec Ideal S16384x512 .f32 := FfnRef.rms512 (FfnRef.yc (ar1 m c) (ar2 m c) (ar4 m c)) (ar5 m c)

theorem convB_at (i : Fin 512) (j : Fin 512) : convB m c t (ix2 i j) = convA m c (ix2 (row t i) j) := by
  refine (FfnPay.conv_at _ _ _ _ _ _ _ _ i j).trans ((FfnRef.rms512_at _ _ (row t i) j).trans ?_).symm
  congr 1
  · funext k
    rw [FfnRef.yc_at]
    refine congrArg₂ (· * ·) (b1 m c t i k).symm (congrArg₂ (· + ·) (congrArg₂ (· + ·) (congrArg₂ (· * ·) ?_ ?_) (congrArg₂ (· * ·) ?_ ?_)) (congrArg₂ (· * ·) ?_ ?_))
    · exact ((b4 m c t i k).trans (v19_at m c _ k)).symm
    · exact (taps_at m c t 0 _ k (by omega)).symm
    · exact ((b3 m c t i k).trans (v18_at m c _ k)).symm
    · exact (taps_at m c t 1 _ k (by omega)).symm
    · exact (b2 m c t i k).symm
    · exact (taps_at m c t 2 _ k (by omega)).symm
  · funext k
    exact ((b7 m c t k).trans (v1_at m c k)).symm

/-- The residual stream of a block. -/
abbrev streamB : FVec Ideal S512x1024 .f32 :=
  k0_pay4 (convB m c t) (iblk m c 5 t) (iblk m c 8 t) (iblk m c 0 t)
    (View.ld (iblk m c 9 t) (Rect.unit ![0, 0] ![512, 1024] inb_S1024x1024_S512x1024_0_0))
    (View.ld (iblk m c 9 t) (Rect.unit ![512, 0] ![512, 1024] inb_S1024x1024_S512x1024_512_0))

/-- The reference's residual stream. -/
abbrev streamA : FVec Ideal S16384x1024 .f32 :=
  FfnRef.x1 (ar0 m c) (convA m c) (FfnRef.rms512 (ar3 m c) (ar6 m c)) (ar7 m c)

theorem streamB_at (i : Fin 512) (j : Fin 1024) : streamB m c t (ix2 i j) = streamA m c (ix2 (row t i) j) := by
  refine (FfnPay.stream_at _ _ _ _ _ _ i j).trans ((FfnRef.x1_at _ _ _ _ (row t i) j).trans ?_).symm
  refine congrArg₂ (· + ·) (b0 m c t i j).symm (congrArg₂ (· + ·) (Finset.sum_congr rfl fun k _ => ?_) (Finset.sum_congr rfl fun k _ => ?_))
  · exact congrArg₂ (· * ·) (convB_at m c t i k).symm (top_at m c t _ k j).symm
  · refine congrArg₂ (· * ·) ((FfnRef.rms512_at _ _ _ _).trans ?_) (bottom_at m c t _ k j).symm
    congr 1
    · funext k; exact (b5 m c t i k).symm
    · funext k; exact ((b8 m c t k).trans (v2_at m c k)).symm

/-- The normalized stream of a block. -/
abbrev normB : FVec Ideal S512x1024 .bf16 :=
  k0_pay5 (convB m c t) (iblk m c 5 t) (iblk m c 8 t) (iblk m c 0 t)
    (View.ld (iblk m c 9 t) (Rect.unit ![0, 0] ![512, 1024] inb_S1024x1024_S512x1024_0_0))
    (View.ld (iblk m c 9 t) (Rect.unit ![512, 0] ![512, 1024] inb_S1024x1024_S512x1024_512_0)) (iblk m c 10 t)

abbrev normA : FVec Ideal S16384x1024 .f32 := FfnRef.rms1024 (streamA m c) (ar8 m c)

theorem normB_at (i : Fin 512) (j : Fin 1024) : normB m c t (ix2 i j) = normA m c (ix2 (row t i) j) := by
  refine (FfnPay.normed_at _ _ _ _ _ _ _ i j).trans ((FfnRef.rms1024_at _ _ (row t i) j).trans ?_).symm
  congr 1
  · funext k; exact (streamB_at m c t i k).symm
  · funext k; exact ((b10 m c t k).trans (v4_at m c k)).symm

/-- One chunk of the hidden layer, over the arguments. -/
theorem unit_at (q : ℕ) (hq : q < 11) (inbg inbu) (i : Fin 512) (k : Fin 256) :
    FfnPay.unit (fun c_1 => normB m c t (ix2 i c_1))
      (fun c_1 => View.ld (iblk m c 11 t) (Rect.unit ![q, 0, 0] ![1, 1024, 256] inbg) (ix3 0 c_1 k))
      (fun c_1 => View.ld (iblk m c 12 t) (Rect.unit ![q, 0, 0] ![1, 1024, 256] inbu) (ix3 0 c_1 k))
    = FfnRef.act (normA m c) (ar9 m c) (ar10 m c) (ix2 (row t i) ⟨q * 256 + k.val, by omega⟩) := by
  rw [FfnRef.act_at]
  unfold FfnPay.unit
  simp only [normB_at, gate_at, up_at]

theorem part_at (q : ℕ) (hq : q < 11) (inbg inbu inbd) (i : Fin 512) (j : Fin 1024) :
    ∑ k : Fin 256, FfnPay.unit (fun c_1 => normB m c t (ix2 i c_1))
      (fun c_1 => View.ld (iblk m c 11 t) (Rect.unit ![q, 0, 0] ![1, 1024, 256] inbg) (ix3 0 c_1 k))
      (fun c_1 => View.ld (iblk m c 12 t) (Rect.unit ![q, 0, 0] ![1, 1024, 256] inbu) (ix3 0 c_1 k))
      * View.ld (iblk m c 13 t) (Rect.unit ![q, 0, 0] ![1, 256, 1024] inbd) (ix3 0 k j)
    = ∑ k : Fin 256, FfnRef.act (normA m c) (ar9 m c) (ar10 m c) (ix2 (row t i) ⟨q * 256 + k.val, by omega⟩)
      * ar11 m c (ix2 ⟨q * 256 + k.val, by omega⟩ j) :=
  Finset.sum_congr rfl fun k _ => congrArg₂ (· * ·) (unit_at m c t q hq inbg inbu i k) (down_at m c t q inbd k j)

theorem sum11 (h : Fin 11 → EReal) : ∑ p, h p = 0 + h 0 + h 1 + h 2 + h 3 + h 4 + h 5 + h 6 + h 7 + h 8 + h 9 + h 10 := by
  simp only [Fin.sum_univ_castSucc, Fin.sum_univ_zero]
  rfl

theorem final : (dats m 0 c).arrAt 14 cfg0.N = FfnRef.ref (ar0 m c) (ar1 m c) (ar2 m c) (ar3 m c) (ar4 m c) (ar5 m c)
    (ar6 m c) (ar7 m c) (ar8 m c) (ar9 m c) (ar10 m c) (ar11 m c) := by
  refine (dats m 0 c).arrAt_eq_of_covers 14 _ (by decide +kernel) fun t hf y => ?_
  blk_simp
  rw [after0_14]
  unfold outsAt0
  frame_out
  idx_vars y
  rw [emb_at]
  refine Eq.trans ?_ (FfnRef.out_at (streamA m c) (FfnRef.act (normA m c) (ar9 m c) (ar10 m c)) (ar11 m c) (row t y0) y1).symm
  rw [FfnRead.sum_chunks, sum11]
  simp only [FfnPay.chunk11, FfnPay.chunk14, FfnPay.chunk15, FfnPay.chunk19, FfnPay.chunk23, FfnPay.chunk10, FfnPay.chunk13,
    FfnPay.chunk18, FfnPay.chunk22, FfnPay.chunk1, FfnPay.total_at, FfnPay.chunk_at, FfnPay.start_at]
  refine congrArg₂ (· + ·) (streamB_at m c t y0 y1) ?_
  iterate 11 refine congrArg₂ (· + ·) ?_ (part_at m c t _ (by decide) _ _ _ y0 y1)
  rfl

end Cert.FfnVal

end
-- ==== Proof.FfnClaim.lean ====
/-
  The equation of the feed-forward program and its reference: both end with the same array.
-/
module

public import proofs.«01_k».proof.Defs
public import proofs.«01_k».proof.Proof.FfnVal
public import Idealize.ShloMosaic.Lib.Claim

@[expose] public section

set_option maxRecDepth 16384

noncomputable section

open Idealize.ShloMosaic Idealize.SL.Sem

namespace Cert.FfnClaim

theorem algebraic2 : algebraic_Kernel2Ideal_Reference2Ideal (hKernel2Ideal := Cert.Kernel2Ideal.Gen.facts)
    (hReference2Ideal := Cert.Reference2Ideal.Gen.facts) := by
  pair_intro
  · run_from Cert.Kernel2Ideal.Value.run_blocks (F := Ideal) m g
  · run_from Cert.Reference2Ideal.Value.run (F := Ideal) m' g'
    refine (FfnRef.res_eq m' c).trans (Eq.trans ?_ (FfnVal.final m c).symm)
    obtain ⟨h0, h1, h2, h3, h4, h5, h6, h7, h8, h9, h10, h11⟩ := hagree c
    rw [h0, h1, h2, h3, h4, h5, h6, h7, h8, h9, h10, h11]

end Cert.FfnClaim

end
-- ==== Proof.InPay.lean ====
/-
  What one grid step of the input projection computes, read at an index: the normalized rows, a projected column block,
  and a projected pair of heads normalized head by head.
-/
module

public import proofs.«01_k».proof.Proof.Gen.Kernel3Ideal.Value
public import proofs.«01_k».proof.Proof.Row
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.InPay

open Cert.Kernel3Ideal Cert.Kernel3Ideal.Gen

variable (N : FVec Ideal S512x1024 .bf16) (W : FVec Ideal S1024x128 .bf16) (G : FVec Ideal S1x128 .f32)

/-! The six normalized pairs of heads are cut at different points of the program; each is one function. -/

theorem pair14 (M : IVec S512x128 1) : k0_pay14 M (k0_pay10 N W) (k0_pay11 G) (k0_pay12 N W) (k0_pay13 N M W)
    = k0_pay9 N M (k0_pay8 W) (constant S512x128 .f32 0x00000000#32) G := rfl

theorem pair21 (M : IVec S512x128 1) : k0_pay21 M (k0_pay15 N W) (k0_pay16 G) (k0_pay18 N M W) (k0_pay19 N M W) k0_pay20
    = k0_pay9 N M (k0_pay8 W) (constant S512x128 .f32 0x00000000#32) G := rfl

theorem pair28 (M : IVec S512x128 1) : k0_pay28 M (k0_pay22 N W) (k0_pay23 G) (k0_pay25 N M W) (k0_pay26 N M W) k0_pay27
    = k0_pay9 N M (k0_pay8 W) (constant S512x128 .f32 0x00000000#32) G := rfl

theorem pair37 (M : IVec S512x128 1) : k0_pay37 M (k0_pay31 N W) (k0_pay32 G) (k0_pay34 N M W) (k0_pay35 N M W) k0_pay36
    = k0_pay9 N M (k0_pay8 W) (constant S512x128 .f32 0x00000000#32) G := rfl

theorem pair1 (M : IVec S512x128 1) : k0_pay1 M (k0_pay39 N W) (k0_pay40 G) (k0_pay42 N M W) (k0_pay43 N M W)
    = k0_pay9 N M (k0_pay8 W) (constant S512x128 .f32 0x00000000#32) G := rfl

theorem select_low (x : Fin 128) (a b : EReal) :
    Scalar.select (IntOp.cmpi CmpIPredicate.slt (BitVec.ofNat 32 x.val) 64#32) a b = if x.val < 64 then a else b := by
  have h : ∀ x : Fin 128, IntOp.cmpi CmpIPredicate.slt (BitVec.ofNat 32 x.val) 64#32 = if x.val < 64 then 1#1 else 0#1 := by decide
  rw [h x]
  by_cases hx : x.val < 64
  · rw [if_pos hx, if_pos hx]; rfl
  · rw [if_neg hx, if_neg hx]; rfl

/-- A projected pair of heads, normalized head by head. -/
theorem pair_at (i : Fin 512) (j : Fin 128) :
    (k0_pay9 (F := Ideal) N k0_pay7 (k0_pay8 W) (constant S512x128 .f32 0x00000000#32) G : FVec Ideal S512x128 .bf16) (ix2 i j) =
      Row.entry (Ideal.ofBits .f32 0x42800000#32) (∑ c : Fin 1024, N (ix2 i c) * W (ix2 c j))
        (fun d : Fin 64 => ∑ c : Fin 1024, N (ix2 i c) * W (ix2 c ⟨j.val / 64 * 64 + d.val, by omega⟩)) (G (ix2 0 j)) := by
  unfold k0_pay9 k0_pay8 k0_pay7 Row.entry
  pointwise
  simp only [select_low]
  rw [Row.sum_low (fun x => (∑ x_1, N (ix2 i x_1) * W (ix2 x_1 x)) * ∑ x_1, N (ix2 i x_1) * W (ix2 x_1 x)),
    Row.sum_high (fun x => (∑ x_1, N (ix2 i x_1) * W (ix2 x_1 x)) * ∑ x_1, N (ix2 i x_1) * W (ix2 x_1 x))]
  by_cases hj : j.val < 64
  · have e : ∀ d : Fin 64, (⟨j.val / 64 * 64 + d.val, by omega⟩ : Fin 128) = ⟨d.val, by omega⟩ := fun d => Fin.ext (by simp; omega)
    simp only [e, if_pos hj]
  · have e : ∀ d : Fin 64, (⟨j.val / 64 * 64 + d.val, by omega⟩ : Fin 128) = ⟨64 + d.val, by omega⟩ := fun d => Fin.ext (by simp; omega)
    simp only [e, if_neg hj]

theorem norm_at (x : FVec Ideal S512x1024 .f32) (g : FVec Ideal S1x1024 .f32) (i : Fin 512) (j : Fin 1024) :
    (k0_pay4 (F := Ideal) x g : FVec Ideal S512x1024 .bf16) (ix2 i j) =
      Row.rms (Ideal.ofBits .f32 0x44800000#32) (fun k : Fin 1024 => x (ix2 i k)) (fun k => g (ix2 0 k)) j := by
  unfold k0_pay4 Row.rms
  pointwise

theorem wide_at (x : FVec Ideal S512x1024 .f32) (g : FVec Ideal S1x1024 .f32) (V : FVec Ideal S1024x512 .bf16) (i j : Fin 512) :
    (k0_pay5 (F := Ideal) x g V : FVec Ideal S512x512 .f32) (ix2 i j) = ∑ c : Fin 1024, (k0_pay4 (F := Ideal) x g : FVec Ideal S512x1024 .bf16) (ix2 i c) * V (ix2 c j) := by
  unfold k0_pay5
  pointwise

theorem prod_at (x : FVec Ideal S512x1024 .f32) (g : FVec Ideal S1x1024 .f32) (V V' : FVec Ideal S1024x512 .bf16) (i j : Fin 512) :
    (k0_pay6 (F := Ideal) x g V V' : FVec Ideal S512x512 .f32) (ix2 i j) = (∑ c : Fin 1024, (k0_pay4 (F := Ideal) x g : FVec Ideal S512x1024 .bf16) (ix2 i c) * V (ix2 c j))
      * (∑ c : Fin 1024, (k0_pay4 (F := Ideal) x g : FVec Ideal S512x1024 .bf16) (ix2 i c) * V' (ix2 c j)) := by
  unfold k0_pay6
  pointwise

theorem same29 : k0_pay29 N W = k0_pay2 N W := rfl
theorem same30 : k0_pay30 N W = k0_pay2 N W := rfl
theorem same38 : k0_pay38 N W = k0_pay2 N W := rfl

theorem cut_at (i : Fin 512) (j : Fin 128) : k0_pay2 N W (ix2 i j) = ∑ c : Fin 1024, N (ix2 i c) * W (ix2 c j) := by
  unfold k0_pay2
  pointwise

theorem gate_at (i : Fin 512) (j : Fin 128) : k0_pay3 N W (ix2 i j) = Ideal.logistic (∑ c : Fin 1024, N (ix2 i c) * W (ix2 c j)) := by
  unfold k0_pay3
  pointwise

end Cert.InPay

end
-- ==== Proof.InRef.lean ====
/-
  The third reference (the fused input projection) read in stages: the projected rows, then each result as a cut of them,
  a product of two cuts, a cut normalized over its heads, or the logistic of a cut; each read at an index.
-/
module

public import proofs.«01_k».proof.Proof.Gen.Reference3Ideal.Run
public import proofs.«01_k».proof.Proof.Row
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.InRef

open Cert.Reference3Ideal Cert.Reference3Ideal.Gen

/-- The projected rows. -/
def proj (A0 : FVec Ideal S16384x1024 .f32) (A1 : FVec Ideal S1024 .f32) (A2 : FVec Ideal S1024x2944 .f32) : FVec Ideal S16384x2944 .f32 :=
  (Host.dotGeneral dot_S16384x1024_S1024x2944_S16384x2944_1_0_0_1_n_n none (mulf (mulf A0 (broadcastInDim S16384x1024 ![0, 1] bcast_S16384x1_S16384x1024_0_1 (Host.rsqrt (addf (Host.divf (broadcastInDim S16384x1 ![0] bcast_S16384_S16384x1_0 (Host.reduceAdd (mulf A0 A0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 A1))) A2)

theorem proj_at (A0 : FVec Ideal S16384x1024 .f32) (A1 : FVec Ideal S1024 .f32) (A2 : FVec Ideal S1024x2944 .f32)
    (i : Fin 16384) (j : Fin 2944) : proj A0 A1 A2 (ix2 i j) = ∑ c : Fin 1024,
      Row.rms (Ideal.ofBits .f32 0x44800000#32) (fun k : Fin 1024 => A0 (ix2 i k)) (fun k => A1 (ix1 k)) c * A2 (ix2 c j) := by
  unfold proj Row.rms
  pointwise

variable (Q : FVec Ideal S16384x2944 .f32) (A3 : FVec Ideal S64 .f32) (A4 : FVec Ideal S3x64 .f32) (i : Fin 16384)

/-- The gate of the convolution. -/
def gb (Q : FVec Ideal S16384x2944 .f32) : FVec Ideal S16384x512 .f32 :=
  extractStridedSlice S16384x512 ![0, 0] Q slices_S16384x2944_S16384x512_0_0

theorem gb_at (j : Fin 512) : gb Q (ix2 i j) = Q (ix2 i ⟨0 + j.val, by omega⟩) := by
  unfold gb
  pointwise

/-- The gated input of the convolution. -/
def v (Q : FVec Ideal S16384x2944 .f32) : FVec Ideal S16384x512 .f32 :=
  mulf (extractStridedSlice S16384x512 ![0, 512] Q slices_S16384x2944_S16384x512_0_512) (extractStridedSlice S16384x512 ![0, 1024] Q slices_S16384x2944_S16384x512_0_1024)

theorem v_at (j : Fin 512) : v Q (ix2 i j) = Q (ix2 i ⟨512 + j.val, by omega⟩) * Q (ix2 i ⟨1024 + j.val, by omega⟩) := by
  unfold v
  pointwise

/-- The normalized queries. -/
def q (Q : FVec Ideal S16384x2944 .f32) (A3 : FVec Ideal S64 .f32) : FVec Ideal S16384x512 .bf16 :=
  truncf .bf16 (shapeCast _ (mulf (mulf (shapeCast _ (extractStridedSlice S16384x512 ![0, 1536] Q slices_S16384x2944_S16384x512_0_1536) shapeCasts_S16384x512_S16384x8x64) (broadcastInDim S16384x8x64 ![0, 1, 2] bcast_S16384x8x1_S16384x8x64_0_1_2 (Host.rsqrt (addf (Host.divf (broadcastInDim S16384x8x1 ![0, 1] bcast_S16384x8_S16384x8x1_0_1 (Host.reduceAdd (mulf (shapeCast _ (extractStridedSlice S16384x512 ![0, 1536] Q slices_S16384x2944_S16384x512_0_1536) shapeCasts_S16384x512_S16384x8x64) (shapeCast _ (extractStridedSlice S16384x512 ![0, 1536] Q slices_S16384x2944_S16384x512_0_1536) shapeCasts_S16384x512_S16384x8x64)) (constant S_ .f32 0x00000000#32) reducesTo_S16384x8x64_S16384x8_d2 h_S_)) (broadcastInDim S16384x8x1 ![] bcast_S_S16384x8x1 (constant S_ .f32 0x42800000#32))) (broadcastInDim S16384x8x1 ![] bcast_S_S16384x8x1 (constant S_ .f32 0x358637BD#32)))))) (broadcastInDim S16384x8x64 ![0, 1, 2] bcast_S1x1x64_S16384x8x64_0_1_2 (broadcastInDim S1x1x64 ![2] bcast_S64_S1x1x64_2 A3))) shapeCasts_S16384x8x64_S16384x512) bitsLt_bf16_f32

theorem q_at (j : Fin 512) : q Q A3 (ix2 i j) = Row.entry (Ideal.ofBits .f32 0x42800000#32) (Q (ix2 i ⟨1536 + j.val, by omega⟩)) (fun d : Fin 64 => Q (ix2 i ⟨1536 + (j.val / 64 * 64 + d.val), by omega⟩)) (A3 (ix1 ⟨j.val % 64, by omega⟩)) := by
  unfold q Row.entry
  pointwise

/-- The keys to be compressed. -/
def kc (Q : FVec Ideal S16384x2944 .f32) : FVec Ideal S16384x128 .f32 :=
  extractStridedSlice S16384x128 ![0, 2048] Q slices_S16384x2944_S16384x128_0_2048

theorem kc_at (j : Fin 128) : kc Q (ix2 i j) = Q (ix2 i ⟨2048 + j.val, by omega⟩) := by
  unfold kc
  pointwise

/-- The values to be compressed. -/
def vc (Q : FVec Ideal S16384x2944 .f32) : FVec Ideal S16384x128 .f32 :=
  extractStridedSlice S16384x128 ![0, 2176] Q slices_S16384x2944_S16384x128_0_2176

theorem vc_at (j : Fin 128) : vc Q (ix2 i j) = Q (ix2 i ⟨2176 + j.val, by omega⟩) := by
  unfold vc
  pointwise

/-- The normalized keys of the selected branch. -/
def ks (Q : FVec Ideal S16384x2944 .f32) (A4 : FVec Ideal S3x64 .f32) : FVec Ideal S16384x128 .f32 :=
  shapeCast _ (mulf (mulf (shapeCast _ (extractStridedSlice S16384x128 ![0, 2304] Q slices_S16384x2944_S16384x128_0_2304) shapeCasts_S16384x128_S16384x2x64) (broadcastInDim S16384x2x64 ![0, 1, 2] bcast_S16384x2x1_S16384x2x64_0_1_2 (Host.rsqrt (addf (Host.divf (broadcastInDim S16384x2x1 ![0, 1] bcast_S16384x2_S16384x2x1_0_1 (Host.reduceAdd (mulf (shapeCast _ (extractStridedSlice S16384x128 ![0, 2304] Q slices_S16384x2944_S16384x128_0_2304) shapeCasts_S16384x128_S16384x2x64) (shapeCast _ (extractStridedSlice S16384x128 ![0, 2304] Q slices_S16384x2944_S16384x128_0_2304) shapeCasts_S16384x128_S16384x2x64)) (constant S_ .f32 0x00000000#32) reducesTo_S16384x2x64_S16384x2_d2 h_S_)) (broadcastInDim S16384x2x1 ![] bcast_S_S16384x2x1 (constant S_ .f32 0x42800000#32))) (broadcastInDim S16384x2x1 ![] bcast_S_S16384x2x1 (constant S_ .f32 0x358637BD#32)))))) (broadcastInDim S16384x2x64 ![0, 1, 2] bcast_S1x1x64_S16384x2x64_0_1_2 (broadcastInDim S1x1x64 ![2] bcast_S64_S1x1x64_2 (shapeCast _ (extractStridedSlice S1x64 ![1, 0] A4 slices_S3x64_S1x64_1_0) shapeCasts_S1x64_S64)))) shapeCasts_S16384x2x64_S16384x128

theorem ks_at (j : Fin 128) : ks Q A4 (ix2 i j) = Row.entry (Ideal.ofBits .f32 0x42800000#32) (Q (ix2 i ⟨2304 + j.val, by omega⟩)) (fun d : Fin 64 => Q (ix2 i ⟨2304 + (j.val / 64 * 64 + d.val), by omega⟩)) (A4 (ix2 1 ⟨j.val % 64, by omega⟩)) := by
  unfold ks Row.entry
  pointwise

/-- The values of the selected branch. -/
def vs (Q : FVec Ideal S16384x2944 .f32) : FVec Ideal S16384x128 .f32 :=
  extractStridedSlice S16384x128 ![0, 2432] Q slices_S16384x2944_S16384x128_0_2432

theorem vs_at (j : Fin 128) : vs Q (ix2 i j) = Q (ix2 i ⟨2432 + j.val, by omega⟩) := by
  unfold vs
  pointwise

/-- The normalized keys of the window branch. -/
def kw (Q : FVec Ideal S16384x2944 .f32) (A4 : FVec Ideal S3x64 .f32) : FVec Ideal S16384x128 .f32 :=
  shapeCast _ (mulf (mulf (shapeCast _ (extractStridedSlice S16384x128 ![0, 2560] Q slices_S16384x2944_S16384x128_0_2560) shapeCasts_S16384x128_S16384x2x64) (broadcastInDim S16384x2x64 ![0, 1, 2] bcast_S16384x2x1_S16384x2x64_0_1_2 (Host.rsqrt (addf (Host.divf (broadcastInDim S16384x2x1 ![0, 1] bcast_S16384x2_S16384x2x1_0_1 (Host.reduceAdd (mulf (shapeCast _ (extractStridedSlice S16384x128 ![0, 2560] Q slices_S16384x2944_S16384x128_0_2560) shapeCasts_S16384x128_S16384x2x64) (shapeCast _ (extractStridedSlice S16384x128 ![0, 2560] Q slices_S16384x2944_S16384x128_0_2560) shapeCasts_S16384x128_S16384x2x64)) (constant S_ .f32 0x00000000#32) reducesTo_S16384x2x64_S16384x2_d2 h_S_)) (broadcastInDim S16384x2x1 ![] bcast_S_S16384x2x1 (constant S_ .f32 0x42800000#32))) (broadcastInDim S16384x2x1 ![] bcast_S_S16384x2x1 (constant S_ .f32 0x358637BD#32)))))) (broadcastInDim S16384x2x64 ![0, 1, 2] bcast_S1x1x64_S16384x2x64_0_1_2 (broadcastInDim S1x1x64 ![2] bcast_S64_S1x1x64_2 (shapeCast _ (extractStridedSlice S1x64 ![2, 0] A4 slices_S3x64_S1x64_2_0) shapeCasts_S1x64_S64)))) shapeCasts_S16384x2x64_S16384x128

theorem kw_at (j : Fin 128) : kw Q A4 (ix2 i j) = Row.entry (Ideal.ofBits .f32 0x42800000#32) (Q (ix2 i ⟨2560 + j.val, by omega⟩)) (fun d : Fin 64 => Q (ix2 i ⟨2560 + (j.val / 64 * 64 + d.val), by omega⟩)) (A4 (ix2 2 ⟨j.val % 64, by omega⟩)) := by
  unfold kw Row.entry
  pointwise

/-- The values of the window branch. -/
def vw (Q : FVec Ideal S16384x2944 .f32) : FVec Ideal S16384x128 .f32 :=
  extractStridedSlice S16384x128 ![0, 2688] Q slices_S16384x2944_S16384x128_0_2688

theorem vw_at (j : Fin 128) : vw Q (ix2 i j) = Q (ix2 i ⟨2688 + j.val, by omega⟩) := by
  unfold vw
  pointwise

/-- The gates of the three branches. -/
def gate (Q : FVec Ideal S16384x2944 .f32) : FVec Ideal S16384x128 .f32 :=
  Host.divf (broadcastInDim S16384x128 ![] bcast_S_S16384x128 (constant S_ .f32 0x3F800000#32)) (addf (broadcastInDim S16384x128 ![] bcast_S_S16384x128 (constant S_ .f32 0x3F800000#32)) (Host.exp (Host.negf (extractStridedSlice S16384x128 ![0, 2816] Q slices_S16384x2944_S16384x128_0_2816))))

theorem gate_at (j : Fin 128) : gate Q (ix2 i j) = Ideal.logistic (Q (ix2 i ⟨2816 + j.val, by omega⟩)) := by
  unfold gate
  pointwise
  rfl

end Cert.InRef

end
-- ==== Proof.InRead.lean ====
/-
  What a grid step of the input projection reads: every block and every load from it, over the arguments.
-/
module

public import proofs.«01_k».proof.Proof.InPay
public import proofs.«01_k».proof.Proof.InRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InRead

open Cert.Kernel3Ideal Cert.Kernel3Ideal.Gen

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, _)

abbrev ar0 (c : Dev nD) : FVec Ideal S16384x1024 .f32 := m ((c.tc : Thread nD τ).loc main_arg0)
abbrev ar1 (c : Dev nD) : FVec Ideal S1024 .f32 := m ((c.tc : Thread nD τ).loc main_arg1)
abbrev ar2 (c : Dev nD) : FVec Ideal S1024x2944 .f32 := m ((c.tc : Thread nD τ).loc main_arg2)
abbrev ar3 (c : Dev nD) : FVec Ideal S64 .f32 := m ((c.tc : Thread nD τ).loc main_arg3)
abbrev ar4 (c : Dev nD) : FVec Ideal S3x64 .f32 := m ((c.tc : Thread nD τ).loc main_arg4)

/-- The row of the arrays a block's row is. -/
abbrev row (t : Fin cfg0.N) (i : Fin 512) : Fin 16384 := ⟨t.val * 512 + i.val, by have h : t.val < 32 := t.isLt; omega⟩

section
variable (c : Dev nD) (t : Fin cfg0.N)

theorem b0 (i : Fin 512) (k : Fin 1024) : (show FVec Ideal S512x1024 .f32 from iblk m c 0 t) (ix2 i k) = ar0 m c (ix2 (row t i) k) := by
  blk_ext [iblk, V, idx t]

theorem v17_at (k : Fin 1024) : (show FVec Ideal S1x1024 .f32 from V m c main_v17) (ix2 0 k) = ar1 m c (ix1 k) := by
  entry_read
  pointwise

theorem v18_at (i : Fin 1024) (k : Fin 2944) : (show FVec Ideal S1024x2944 .bf16 from V m c main_v18) (ix2 i k) = ar2 m c (ix2 i k) := by
  entry_read
  pointwise

theorem v3_at (k : Fin 128) : (show FVec Ideal S1x128 .f32 from V m c main_v3) (ix2 0 k) = ar3 m c (ix1 ⟨k.val % 64, by omega⟩) := by
  entry_read
  pointwise

theorem v16_at (r : Fin 2) (k : Fin 128) : (show FVec Ideal S2x128 .f32 from V m c main_v16) (ix2 r k) = ar4 m c (ix2 ⟨1 + r.val, by omega⟩ ⟨k.val % 64, by omega⟩) := by
  entry_read
  pointwise
  fin_cases r <;> rfl

theorem b1 (k : Fin 1024) : (show FVec Ideal S1x1024 .f32 from iblk m c 1 t) (ix2 0 k) = (show FVec Ideal S1x1024 .f32 from V m c main_v17) (ix2 0 k) := by
  blk_ext [iblk, idx t]

theorem b2 (i : Fin 1024) (k : Fin 2944) : (show FVec Ideal S1024x2944 .bf16 from iblk m c 2 t) (ix2 i k) = (show FVec Ideal S1024x2944 .bf16 from V m c main_v18) (ix2 i k) := by
  blk_ext [iblk, idx t]

theorem b3 (k : Fin 128) : (show FVec Ideal S1x128 .f32 from iblk m c 3 t) (ix2 0 k) = (show FVec Ideal S1x128 .f32 from V m c main_v3) (ix2 0 k) := by
  blk_ext [iblk, idx t]

theorem b4 (r : Fin 2) (k : Fin 128) : (show FVec Ideal S2x128 .f32 from iblk m c 4 t) (ix2 r k) = (show FVec Ideal S2x128 .f32 from V m c main_v16) (ix2 r k) := by
  blk_ext [iblk, idx t]

theorem cols128_at (q : ℕ) (inb : ∀ a, (![0, q] : Fin 2 → ℕ) a + (![1024, 128] : Fin 2 → ℕ) a ≤ S1024x2944.size a) (hq : q + 128 ≤ 2944) (i : Fin 1024) (k : Fin 128) :
    View.ld (iblk m c 2 t) (Rect.unit ![0, q] ![1024, 128] inb) (ix2 i k) = ar2 m c (ix2 i ⟨q + k.val, by omega⟩) :=
  (View.ld_unit_apply_of (S := S1024x2944) _ _ _ _ _ (ix2 i (⟨q + k.val, by omega⟩ : Fin 2944)) (fun a => by fin_cases a <;> simp [ix2])).trans
    ((b2 m c t i _).trans (v18_at m c i _))

theorem cols512_at (q : ℕ) (inb : ∀ a, (![0, q] : Fin 2 → ℕ) a + (![1024, 512] : Fin 2 → ℕ) a ≤ S1024x2944.size a) (hq : q + 512 ≤ 2944) (i : Fin 1024) (k : Fin 512) :
    View.ld (iblk m c 2 t) (Rect.unit ![0, q] ![1024, 512] inb) (ix2 i k) = ar2 m c (ix2 i ⟨q + k.val, by omega⟩) :=
  (View.ld_unit_apply_of (S := S1024x2944) _ _ _ _ _ (ix2 i (⟨q + k.val, by omega⟩ : Fin 2944)) (fun a => by fin_cases a <;> simp [ix2])).trans
    ((b2 m c t i _).trans (v18_at m c i _))

theorem gain_at (q : ℕ) (inb : ∀ a, (![q, 0] : Fin 2 → ℕ) a + (![1, 128] : Fin 2 → ℕ) a ≤ S2x128.size a) (hq : q < 2) (k : Fin 128) :
    View.ld (iblk m c 4 t) (Rect.unit ![q, 0] ![1, 128] inb) (ix2 0 k) = ar4 m c (ix2 ⟨1 + q, by omega⟩ ⟨k.val % 64, by omega⟩) :=
  (View.ld_unit_apply_of (S := S2x128) _ _ _ _ _ (ix2 (⟨q, hq⟩ : Fin 2) k) (fun a => by fin_cases a <;> simp [ix2])).trans
    ((b4 m c t ⟨q, hq⟩ k).trans (v16_at m c ⟨q, hq⟩ k))

theorem emb5 (i : Fin 512) (j : Fin 512) : ((View.whole main_v19_0).slice (win0_5.rect t)).emb (ix2 i j) = ix2 (row t i) j := by
  blk_ext [idx t]

theorem emb6 (i : Fin 512) (j : Fin 512) : ((View.whole main_v19_1).slice (win0_6.rect t)).emb (ix2 i j) = ix2 (row t i) j := by
  blk_ext [idx t]

theorem emb7 (i : Fin 512) (j : Fin 512) : ((View.whole main_v19_2).slice (win0_7.rect t)).emb (ix2 i j) = ix2 (row t i) j := by
  blk_ext [idx t]

theorem emb8 (i : Fin 512) (j : Fin 128) : ((View.whole main_v19_3).slice (win0_8.rect t)).emb (ix2 i j) = ix2 (row t i) j := by
  blk_ext [idx t]

theorem emb9 (i : Fin 512) (j : Fin 128) : ((View.whole main_v19_4).slice (win0_9.rect t)).emb (ix2 i j) = ix2 (row t i) j := by
  blk_ext [idx t]

theorem emb10 (i : Fin 512) (j : Fin 128) : ((View.whole main_v19_5).slice (win0_10.rect t)).emb (ix2 i j) = ix2 (row t i) j := by
  blk_ext [idx t]

theorem emb11 (i : Fin 512) (j : Fin 128) : ((View.whole main_v19_6).slice (win0_11.rect t)).emb (ix2 i j) = ix2 (row t i) j := by
  blk_ext [idx t]

theorem emb12 (i : Fin 512) (j : Fin 128) : ((View.whole main_v19_7).slice (win0_12.rect t)).emb (ix2 i j) = ix2 (row t i) j := by
  blk_ext [idx t]

theorem emb13 (i : Fin 512) (j : Fin 128) : ((View.whole main_v19_8).slice (win0_13.rect t)).emb (ix2 i j) = ix2 (row t i) j := by
  blk_ext [idx t]

theorem emb14 (i : Fin 512) (j : Fin 128) : ((View.whole main_v19_9).slice (win0_14.rect t)).emb (ix2 i j) = ix2 (row t i) j := by
  blk_ext [idx t]

end

end Cert.InRead

end
-- ==== Proof.InVal.lean ====
/-
  What the input projection's ten result arrays hold: at every index the values the reference computes.
-/
module

public import proofs.«01_k».proof.Proof.InRead

@[expose] public section

set_option maxRecDepth 16384

noncomputable section

open Idealize.ShloMosaic Idealize.ShloMosaic.TcCoe Idealize.SL.Sem
open Idealize.ShloMosaic.Pipeline (Dat)

namespace Cert.InVal

open Cert.Kernel3Ideal Cert.Kernel3Ideal.Gen Cert.InRead

variable (m : (ℓ : Loc nD τ sig) → Buf (Elt Ideal) ℓ) (c : Dev nD) (t : Fin cfg0.N)

/-- The normalized rows of a block. -/
abbrev normB : FVec Ideal S512x1024 .bf16 := k0_pay44 (iblk m c 0 t) (iblk m c 1 t) (iblk m c 2 t) (iblk m c 3 t) (iblk m c 4 t)

theorem norm44 : normB m c t = k0_pay4 (F := Ideal) (iblk m c 0 t) (iblk m c 1 t) := by
  unfold normB k0_pay44
  rw [View.ld_unit_lit _ _ (by decide), View.ld_unit_lit _ _ (by decide)]

/-- The reference's projected rows. -/
abbrev Q : FVec Ideal Cert.Reference3Ideal.S16384x2944 .f32 := InRef.proj (ar0 m c) (ar1 m c) (ar2 m c)

theorem normB_at (i : Fin 512) (k : Fin 1024) : normB m c t (ix2 i k) = Row.rms (Ideal.ofBits .f32 0x44800000#32)
    (fun k : Fin 1024 => ar0 m c (ix2 (row t i) k)) (fun k => ar1 m c (ix1 k)) k := by
  rw [norm44]
  refine (InPay.norm_at _ _ i k).trans ?_
  congr 1
  · funext k; exact b0 m c t i k
  · funext k; exact (b1 m c t k).trans (v17_at m c k)

theorem cols128 (q : ℕ) (inb) (hq : q + 128 ≤ 2944) (i : Fin 512) (j : Fin 128) :
    ∑ k : Fin 1024, normB m c t (ix2 i k) * View.ld (iblk m c 2 t) (Rect.unit ![0, q] ![1024, 128] inb) (ix2 k j)
      = Q m c (ix2 (row t i) ⟨q + j.val, by omega⟩) := by
  refine (Finset.sum_congr rfl fun k _ => ?_).trans (InRef.proj_at _ _ _ _ _).symm
  exact congrArg₂ (· * ·) (normB_at m c t i k) (cols128_at m c t q inb hq k j)

theorem cols512 (q : ℕ) (inb) (hq : q + 512 ≤ 2944) (i : Fin 512) (j : Fin 512) :
    ∑ k : Fin 1024, (k0_pay4 (F := Ideal) (iblk m c 0 t) (iblk m c 1 t) : FVec Ideal S512x1024 .bf16) (ix2 i k)
        * View.ld (iblk m c 2 t) (Rect.unit ![0, q] ![1024, 512] inb) (ix2 k j)
      = Q m c (ix2 (row t i) ⟨q + j.val, by omega⟩) := by
  rw [← norm44]
  refine (Finset.sum_congr rfl fun k _ => ?_).trans (InRef.proj_at _ _ _ _ _).symm
  exact congrArg₂ (· * ·) (normB_at m c t i k) (cols512_at m c t q inb hq k j)

/-- A normalized pair of heads of a block, over the reference's projected rows. -/
theorem pair (q : ℕ) (inb) (hq : q + 128 ≤ 2944) (G : FVec Ideal S1x128 .f32) (i : Fin 512) (j : Fin 128) :
    (k0_pay9 (F := Ideal) (normB m c t) (k0_pay45 (iblk m c 0 t) (iblk m c 1 t) (iblk m c 2 t) (iblk m c 3 t) (iblk m c 4 t))
      (k0_pay8 (View.ld (iblk m c 2 t) (Rect.unit ![0, q] ![1024, 128] inb))) (constant S512x128 .f32 0x00000000#32) G : FVec Ideal S512x128 .bf16) (ix2 i j)
    = Row.entry (Ideal.ofBits .f32 0x42800000#32) (Q m c (ix2 (row t i) ⟨q + j.val, by omega⟩))
      (fun d : Fin 64 => Q m c (ix2 (row t i) ⟨q + (j.val / 64 * 64 + d.val), by omega⟩)) (G (ix2 0 j)) := by
  refine (InPay.pair_at _ _ _ i j).trans ?_
  rw [cols128 m c t q inb hq i j]
  congr 1
  funext d
  exact cols128 m c t q inb hq i _

/-- One pair of query heads of a block. -/
theorem head (q : ℕ) (inb : ∀ a, (![0, 1536 + q] : Fin 2 → ℕ) a + (![1024, 128] : Fin 2 → ℕ) a ≤ S1024x2944.size a)
    (inb' : ∀ a, (![0, q] : Fin 2 → ℕ) a + (![512, 128] : Fin 2 → ℕ) a ≤ S512x512.size a) (hq : q + 128 ≤ 512) (h64 : q % 64 = 0) {X : FVec Ideal S512x128 .bf16}
    (hX : X = k0_pay9 (F := Ideal) (normB m c t) (k0_pay45 (iblk m c 0 t) (iblk m c 1 t) (iblk m c 2 t) (iblk m c 3 t) (iblk m c 4 t))
      (k0_pay8 (View.ld (iblk m c 2 t) (Rect.unit ![0, 1536 + q] ![1024, 128] inb))) (constant S512x128 .f32 0x00000000#32) (iblk m c 3 t))
    (x : S512x128.Idx) :
    X x = InRef.q (Q m c) (ar3 m c) (((View.whole main_v19_2).slice (win0_7.rect t)).emb ((Rect.unit (s := S512x512) ![0, q] ![512, 128] inb').emb x)) := by
  idx_vars x
  have e : (Rect.unit (s := S512x512) ![0, q] ![512, 128] inb').emb (ix2 x0 x1) = ix2 x0 (⟨q + x1.val, by omega⟩ : Fin 512) := by
    funext a; fin_cases a <;> refine Fin.ext ((Rect.emb_apply _ _ _).trans ?_) <;> simp [ix2, Rect.unit]
  rw [hX, e, emb7]
  refine (pair m c t (1536 + q) inb (by omega) _ x0 x1).trans (Eq.trans ?_ (InRef.q_at (Q m c) (ar3 m c) (row t x0) _).symm)
  have g : (iblk m c 3 t : FVec Ideal S1x128 .f32) (ix2 0 x1) = ar3 m c (ix1 ⟨(q + x1.val) % 64, by omega⟩) :=
    (b3 m c t x1).trans ((v3_at m c x1).trans (congrArg (fun z => ar3 m c (ix1 z)) (Fin.ext (by simp only []; omega))))
  have e0 : (⟨1536 + q + x1.val, by omega⟩ : Fin 2944) = ⟨1536 + (q + x1.val), by omega⟩ := Fin.ext (by simp only []; omega)
  have e1 : ∀ d : Fin 64, (⟨1536 + q + (x1.val / 64 * 64 + d.val), by omega⟩ : Fin 2944)
      = ⟨1536 + ((q + x1.val) / 64 * 64 + d.val), by omega⟩ := fun d => Fin.ext (by simp only []; omega)
  simp only [e0, e1]
  exact congrArg _ g

theorem final5 : (dats m 0 c).arrAt 5 cfg0.N = InRef.gb (Q m c) := by
  refine (dats m 0 c).arrAt_eq_of_covers 5 _ (by decide +kernel) fun t hf y => ?_
  blk_simp
  rw [after0_5]
  frame_out
  idx_vars y
  rw [emb5]
  exact (InPay.wide_at _ _ _ _ _).trans ((cols512 m c t 0 _ (by omega) y0 y1).trans (InRef.gb_at (Q m c) (row t y0) y1).symm)

theorem final6 : (dats m 0 c).arrAt 6 cfg0.N = InRef.v (Q m c) := by
  refine (dats m 0 c).arrAt_eq_of_covers 6 _ (by decide +kernel) fun t hf y => ?_
  blk_simp
  rw [after0_6]
  frame_out
  idx_vars y
  rw [emb6]
  exact (InPay.prod_at _ _ _ _ _ _).trans ((congrArg₂ (· * ·) (cols512 m c t 512 _ (by omega) y0 y1)
    (cols512 m c t 1024 _ (by omega) y0 y1)).trans (InRef.v_at (Q m c) (row t y0) y1).symm)

theorem final8 : (dats m 0 c).arrAt 8 cfg0.N = InRef.kc (Q m c) := by
  refine (dats m 0 c).arrAt_eq_of_covers 8 _ (by decide +kernel) fun t hf y => ?_
  blk_simp
  rw [after0_8]
  frame_out
  idx_vars y
  rw [emb8]
  exact (InPay.cut_at _ _ _ _).trans ((cols128 m c t 2048 _ (by omega) y0 y1).trans (InRef.kc_at (Q m c) (row t y0) y1).symm)

theorem final9 : (dats m 0 c).arrAt 9 cfg0.N = InRef.vc (Q m c) := by
  refine (dats m 0 c).arrAt_eq_of_covers 9 _ (by decide +kernel) fun t hf y => ?_
  blk_simp
  rw [after0_9]
  frame_out
  idx_vars y
  rw [emb9]
  exact (InPay.cut_at _ _ _ _).trans ((cols128 m c t 2176 _ (by omega) y0 y1).trans (InRef.vc_at (Q m c) (row t y0) y1).symm)

theorem final11 : (dats m 0 c).arrAt 11 cfg0.N = InRef.vs (Q m c) := by
  refine (dats m 0 c).arrAt_eq_of_covers 11 _ (by decide +kernel) fun t hf y => ?_
  blk_simp
  rw [after0_11]
  frame_out
  idx_vars y
  rw [emb11]
  exact (InPay.cut_at _ _ _ _).trans ((cols128 m c t 2432 _ (by omega) y0 y1).trans (InRef.vs_at (Q m c) (row t y0) y1).symm)

theorem final13 : (dats m 0 c).arrAt 13 cfg0.N = InRef.vw (Q m c) := by
  refine (dats m 0 c).arrAt_eq_of_covers 13 _ (by decide +kernel) fun t hf y => ?_
  blk_simp
  rw [after0_13]
  frame_out
  idx_vars y
  rw [emb13]
  exact (InPay.cut_at _ _ _ _).trans ((cols128 m c t 2688 _ (by omega) y0 y1).trans (InRef.vw_at (Q m c) (row t y0) y1).symm)

theorem final14 : (dats m 0 c).arrAt 14 cfg0.N = InRef.gate (Q m c) := by
  refine (dats m 0 c).arrAt_eq_of_covers 14 _ (by decide +kernel) fun t hf y => ?_
  blk_simp
  rw [after0_14]
  frame_out
  idx_vars y
  rw [emb14]
  exact (InPay.gate_at _ _ _ _).trans ((congrArg Ideal.logistic (cols128 m c t 2816 _ (by omega) y0 y1)).trans (InRef.gate_at (Q m c) (row t y0) y1).symm)

theorem final10 : (dats m 0 c).arrAt 10 cfg0.N = InRef.ks (Q m c) (ar4 m c) := by
  refine (dats m 0 c).arrAt_eq_of_covers 10 _ (by decide +kernel) fun t hf y => ?_
  blk_simp
  rw [after0_10]
  frame_out
  idx_vars y
  rw [emb10]
  refine (congrFun (InPay.pair37 _ _ _ _) _).trans ((pair m c t 2304 _ (by omega) _ y0 y1).trans ((congrArg _ ?_).trans (InRef.ks_at (Q m c) (ar4 m c) (row t y0) y1).symm))
  exact gain_at m c t 0 _ (by omega) y1

theorem final12 : (dats m 0 c).arrAt 12 cfg0.N = InRef.kw (Q m c) (ar4 m c) := by
  refine (dats m 0 c).arrAt_eq_of_covers 12 _ (by decide +kernel) fun t hf y => ?_
  blk_simp
  rw [after0_12]
  frame_out
  idx_vars y
  rw [emb12]
  refine (congrFun (InPay.pair1 _ _ _ _) _).trans ((pair m c t 2560 _ (by omega) _ y0 y1).trans ((congrArg _ ?_).trans (InRef.kw_at (Q m c) (ar4 m c) (row t y0) y1).symm))
  exact gain_at m c t 1 _ (by omega) y1

theorem final7 : (dats m 0 c).arrAt 7 cfg0.N = InRef.q (Q m c) (ar3 m c) := by
  refine (dats m 0 c).arrAt_eq_of_covers 7 _ (by decide +kernel) fun t hf y => ?_
  blk_simp
  rw [after0_7]
  frame_out
  refine View.canon_apply_of_pieces (Val := Elt Ideal) (fun y => InRef.q (Q m c) (ar3 m c) (((View.whole main_v19_2).slice (win0_7.rect t)).emb y)) _ ?_ y (cover0_7 _ _ _ _ y)
  intro pc hpc
  rcases List.mem_cons.mp hpc with rfl | hpc
  · intro x; exact head m c t 384 (by decide) (by decide) (by omega) (by omega) (InPay.pair28 _ _ _ _) x
  rcases List.mem_cons.mp hpc with rfl | hpc
  · intro x; exact head m c t 256 (by decide) (by decide) (by omega) (by omega) (InPay.pair21 _ _ _ _) x
  rcases List.mem_cons.mp hpc with rfl | hpc
  · intro x; exact head m c t 128 (by decide) (by decide) (by omega) (by omega) (InPay.pair14 _ _ _ _) x
  rcases List.mem_cons.mp hpc with rfl | hpc
  · intro x; exact head m c t 0 (by decide) (by decide) (by omega) (by omega) rfl x
  nomatch hpc

end Cert.InVal

end
-- ==== Proof.InClaim.lean ====
/-
  The equation of the input projection and its reference: both end with the same ten arrays.
-/
module

public import proofs.«01_k».proof.Defs
public import proofs.«01_k».proof.Proof.InVal
public import Idealize.ShloMosaic.Lib.Claim

@[expose] public section

set_option maxRecDepth 16384
set_option maxHeartbeats 2000000

noncomputable section

open Idealize.ShloMosaic Idealize.SL.Sem

namespace Cert.InClaim

theorem algebraic3 : algebraic_Kernel3Ideal_Reference3Ideal (hKernel3Ideal := Cert.Kernel3Ideal.Gen.facts)
    (hReference3Ideal := Cert.Reference3Ideal.Gen.facts) := by
  pair_intro
  · run_from Cert.Kernel3Ideal.Value.run_blocks (F := Ideal) m g
  · run_from Cert.Reference3Ideal.Value.run (F := Ideal) m' g'
    all_goals obtain ⟨h0, h1, h2, h3, h4⟩ := hagree c
    all_goals try rw [h0, h1, h2]
    all_goals try rw [h3]
    all_goals try rw [h4]
    · exact (InVal.final5 m c).symm
    · exact (InVal.final6 m c).symm
    · exact (InVal.final7 m c).symm
    · exact (InVal.final8 m c).symm
    · exact (InVal.final9 m c).symm
    · exact (InVal.final10 m c).symm
    · exact (InVal.final11 m c).symm
    · exact (InVal.final12 m c).symm
    · exact (InVal.final13 m c).symm
    · exact (InVal.final14 m c).symm

end Cert.InClaim

end
-- ==== Proof.Soft.lean ====
/-
  The masked softmax over the extended reals. A position's weight is `exp (l i - M)` where the mask holds and `0`
  elsewhere, divided by the weights' sum (by `1` where the sum is not positive). Shown here: the weights are
  nonnegative reals whenever `M` bounds the logits; the quotient is the same at every larger finite shift; a weight
  taken at one bound and scaled by `exp (M - M')` is the weight at the later bound; and the division may be done after
  the weighted sum of the values.
-/
module

public import Idealize.ShloMosaic.PureOps.Ideal

@[expose] public section

noncomputable section

open Idealize.ShloMosaic

namespace Cert.Soft

variable {ι : Type} [Fintype ι]

/-- The unnormalized weight of position `i` at shift `M`. -/
def num (mask : ι → Bool) (l : ι → EReal) (M : EReal) (i : ι) : EReal := if mask i then Ideal.exp (l i - M) else 0

/-- The divisor for the weights' sum `S`. -/
def dn (S : EReal) : EReal := if 0 < S then S else 1

/-- The normalized weight. -/
def prob (mask : ι → Bool) (l : ι → EReal) (M : EReal) (i : ι) : EReal :=
  Ideal.div (num mask l M i) (dn (∑ k, num mask l M k))

theorem exp_real {x M : EReal} (h : x ≤ M) : ∃ r : ℝ, 0 ≤ r ∧ Ideal.exp (x - M) = r := by
  induction M with
  | bot =>
    obtain rfl : x = ⊥ := le_bot_iff.mp h
    exact ⟨0, le_refl _, by simp⟩
  | top =>
    refine ⟨0, le_refl _, ?_⟩
    rw [EReal.sub_top, Ideal.exp_bot]; rfl
  | coe r =>
    induction x with
    | bot => exact ⟨0, le_refl _, by simp⟩
    | top => exact absurd (top_le_iff.mp h) (EReal.coe_ne_top r)
    | coe y => exact ⟨Real.exp (y - r), (Real.exp_pos _).le, by rw [← EReal.coe_sub, Ideal.exp_coe]⟩

theorem num_real (mask : ι → Bool) {l : ι → EReal} {M : EReal} (h : ∀ i, l i ≤ M) (i : ι) :
    ∃ r : ℝ, 0 ≤ r ∧ num mask l M i = r := by
  unfold num
  split
  · exact exp_real (h i)
  · exact ⟨0, le_refl _, by simp⟩

/-- A finite family of nonnegative reals: its sum is the coercion of the real sum. -/
theorem sum_coe (f : ι → ℝ) : ∑ i, (f i : EReal) = ((∑ i, f i : ℝ) : EReal) := by
  induction (Finset.univ : Finset ι) using Finset.cons_induction with
  | empty => simp
  | cons a s ha ih => rw [Finset.sum_cons, Finset.sum_cons, ih, EReal.coe_add]

/-- Dividing by the guarded sum is multiplying by a nonnegative real. -/
theorem div_dn {S : ℝ} (hS : 0 ≤ S) : ∃ k : ℝ, 0 ≤ k ∧ (0 < S → k = S⁻¹) ∧ ∀ x : EReal, Ideal.div x (dn S) = x * (k : EReal) := by
  unfold dn
  by_cases h : 0 < S
  · refine ⟨S⁻¹, (inv_nonneg.mpr hS), fun _ => rfl, fun x => ?_⟩
    rw [if_pos (by exact_mod_cast h), Ideal.div, if_neg (by exact_mod_cast h.ne'), EReal.coe_inv]
  · refine ⟨1, zero_le_one, fun h' => absurd h' h, fun x => ?_⟩
    rw [if_neg (by exact_mod_cast h), Ideal.div, if_neg one_ne_zero]
    have : ((1 : EReal))⁻¹ = ((1 : ℝ) : EReal) := by
      rw [← EReal.coe_one, ← EReal.coe_inv, inv_one]
    rw [this]

theorem prob_real (mask : ι → Bool) {l : ι → EReal} {M : EReal} (h : ∀ i, l i ≤ M) (i : ι) :
    ∃ r : ℝ, 0 ≤ r ∧ prob mask l M i = r := by
  choose f hf0 hf using num_real mask h
  unfold prob
  simp only [hf, sum_coe]
  obtain ⟨k, hk, -, e⟩ := div_dn (S := ∑ i, f i) (Finset.sum_nonneg fun i _ => hf0 i)
  exact ⟨f i * k, mul_nonneg (hf0 i) hk, by rw [e, EReal.coe_mul]⟩

/-- A weight at the bound `M`, scaled, is the weight at the larger bound `M'`; `M` is not `⊥`. -/
theorem scale_exp {x M M' : EReal} (hx : x ≤ M) (hM : M ≤ M') (hb : M ≠ ⊥) :
    Ideal.exp (M - M') * Ideal.exp (x - M) = Ideal.exp (x - M') := by
  induction M' with
  | bot => exact absurd (le_bot_iff.mp hM) hb
  | top =>
    rw [EReal.sub_top, EReal.sub_top, Ideal.exp_bot, zero_mul]
  | coe r' =>
    induction M with
    | bot => exact absurd rfl hb
    | top => exact absurd (top_le_iff.mp hM) (EReal.coe_ne_top r')
    | coe r =>
      induction x with
      | bot => simp
      | top => exact absurd (top_le_iff.mp hx) (EReal.coe_ne_top r)
      | coe y =>
        rw [← EReal.coe_sub, ← EReal.coe_sub, ← EReal.coe_sub, Ideal.exp_coe, Ideal.exp_coe, Ideal.exp_coe,
          ← EReal.coe_mul, ← Real.exp_add]
        congr 2; ring

theorem scale_num (mask : ι → Bool) {l : ι → EReal} {M M' : EReal} (hx : ∀ i, l i ≤ M) (hM : M ≤ M') (hb : M ≠ ⊥) (i : ι) :
    Ideal.exp (M - M') * num mask l M i = num mask l M' i := by
  unfold num
  split
  · exact scale_exp (hx i) hM hb
  · rw [mul_zero]

/-- The normalized weights do not depend on the shift: `M` and its maximum with a real number give the same. -/
theorem prob_shift (mask : ι → Bool) {l : ι → EReal} {M : EReal} (h : ∀ i, l i ≤ M) (c : ℝ) (i : ι) :
    prob mask l (max M c) i = prob mask l M i := by
  induction M with
  | bot =>
    have hl : ∀ i, l i = ⊥ := fun i => le_bot_iff.mp (h i)
    have e : ∀ (M : EReal) (i : ι), num mask l M i = 0 := by
      intro M i
      unfold num
      rw [hl i, EReal.bot_sub, Ideal.exp_bot]
      split <;> rfl
    unfold prob
    simp only [e]
  | top => rw [max_eq_left le_top]
  | coe r =>
    choose f hf0 hf using num_real mask h
    have e : ∀ i, num mask l (max (r : EReal) c) i = ((Real.exp (r - max r c) * f i : ℝ) : EReal) := by
      intro i
      rw [← scale_num mask h (le_max_left _ _) (EReal.coe_ne_bot r) i, hf, EReal.coe_mul]
      congr 1
    unfold prob
    simp only [e, hf, sum_coe]
    rw [← Finset.mul_sum]
    have hk : 0 < Real.exp (r - max r c) := Real.exp_pos _
    have hS : 0 ≤ ∑ i, f i := Finset.sum_nonneg fun i _ => hf0 i
    obtain ⟨a, -, ha, ea⟩ := div_dn (S := Real.exp (r - max r c) * ∑ i, f i) (mul_nonneg hk.le hS)
    obtain ⟨b, -, hb, eb⟩ := div_dn hS
    rw [ea, eb, ← EReal.coe_mul, ← EReal.coe_mul]
    congr 1
    rcases hS.eq_or_lt with h0 | h0
    · have : f i = 0 := le_antisymm ((Finset.single_le_sum (fun i _ => hf0 i) (Finset.mem_univ i)).trans h0.symm.le) (hf0 i)
      rw [this]; ring
    · rw [ha (mul_pos hk h0), hb h0]
      field_simp

/-- A nonnegative real factor goes into a sum of extended reals. -/
theorem coe_mul_sum {k : ℝ} (hk : 0 ≤ k) (f : ι → EReal) : (k : EReal) * ∑ i, f i = ∑ i, (k : EReal) * f i := by
  induction (Finset.univ : Finset ι) using Finset.cons_induction with
  | empty => simp
  | cons a s ha ih =>
    rw [Finset.sum_cons, Finset.sum_cons, ← ih,
      EReal.left_distrib_of_nonneg_of_ne_top (by exact_mod_cast hk) (EReal.coe_ne_top k)]

/-- The division may follow the weighted sum of the values. -/
theorem div_after (mask : ι → Bool) {l : ι → EReal} {M : EReal} (h : ∀ i, l i ≤ M) (v : ι → EReal) :
    Ideal.div (∑ i, num mask l M i * v i) (dn (∑ k, num mask l M k)) = ∑ i, prob mask l M i * v i := by
  choose f hf0 hf using num_real mask h
  unfold prob
  simp only [hf, sum_coe]
  obtain ⟨k, hk, -, e⟩ := div_dn (S := ∑ i, f i) (Finset.sum_nonneg fun i _ => hf0 i)
  simp only [e]
  rw [mul_comm, coe_mul_sum hk]
  refine Finset.sum_congr rfl fun i _ => ?_
  rw [← mul_assoc, mul_comm (k : EReal)]

/-- A sum of positions carried to a later bound. -/
theorem scale_sum (mask : ι → Bool) {l : ι → EReal} {M M' : EReal} (hx : ∀ i, l i ≤ M) (hM : M ≤ M') (hb : M ≠ ⊥) (v : ι → EReal) :
    Ideal.exp (M - M') * ∑ i, num mask l M i * v i = ∑ i, num mask l M' i * v i := by
  obtain ⟨k, hk, e⟩ := exp_real hM
  rw [e, coe_mul_sum hk, ← e]
  refine Finset.sum_congr rfl fun i _ => ?_
  rw [← mul_assoc, scale_num mask hx hM hb]

end Cert.Soft

end
-- ==== Proof.SelMath.lean ====
/-
  The two softmaxes of the attention with their tables padded. A last position that never takes part leaves the weights
  as they are. Two tables taken one after the other, with the weights of the first rescaled to the larger maximum, give
  the softmax over both.
-/
module

public import proofs.«01_k».proof.Proof.Soft
public import Idealize.ShloMosaic.Lib.IdealHost

@[expose] public section

noncomputable section

open Idealize.ShloMosaic

namespace Cert.SelMath

/-- The masked logit. -/
abbrev low : EReal := Ideal.ofBits .f32 0xF149F2CA#32

/-- Minus infinity as written. -/
abbrev bot : EReal := Ideal.ofBits .f32 0xFF800000#32

/-- The largest of a family. -/
def top {ι : Type} [Fintype ι] (l : ι → EReal) : EReal := Finset.univ.fold max bot l

/-- A family with the entries off the mask replaced. -/
def cover {ι : Type} (mask : ι → Bool) (l : ι → EReal) (i : ι) : EReal := if mask i then l i else low

/-- The blocks every query takes: the first one, its own and the one before. -/
def own (n : ℕ) : Bool := decide (n = 0 ∨ n = 128 ∨ n = 127)

theorem sel (p : Bool) (x y : EReal) : Scalar.select (BitVec.ofBool p) x y = if p then x else y := by
  cases p <;> rfl

/-- The scale of the logits. -/
abbrev sc : EReal := Ideal.ofBits .f32 0x3E000000#32

theorem low_real : ∃ r : ℝ, low = (r : EReal) := by
  refine ⟨-(13234890 * 2 ^ 76), ?_⟩
  simp [low, Ideal.ofBits, Ideal.ieee]

theorem bot_eq : bot = ⊥ := by
  simp [bot, Ideal.ofBits, Ideal.ieee]

variable {ι : Type} [Fintype ι]

theorem le_top (l : ι → EReal) (i : ι) : l i ≤ top l :=
  Finset.le_fold_max (c := l i) |>.mpr (.inr ⟨i, Finset.mem_univ i, le_refl _⟩)

theorem top_le (l : ι → EReal) (M : EReal) (h : ∀ i, l i ≤ M) : top l ≤ M :=
  Finset.fold_max_le (c := M) |>.mpr ⟨by rw [show (bot : EReal) = ⊥ from bot_eq]; exact bot_le, fun i _ => h i⟩

theorem le_top_of (l : ι → EReal) {x : EReal} (i : ι) (h : x ≤ l i) : x ≤ top l := h.trans (le_top l i)

section last

variable {n : ℕ} (mask : Fin (n + 1) → Bool) (l : Fin (n + 1) → EReal) (f : Fin n → EReal)
  (hm : ∀ i : Fin n, mask i.castSucc = true) (hn : mask (Fin.last n) = false) (hl : ∀ i : Fin n, l i.castSucc = f i)

include hm hn hl

theorem top_last : top (cover mask l) = max (top f) low := by
  refine le_antisymm (top_le _ _ fun i => ?_) (max_le (top_le _ _ fun i => ?_) ?_)
  · refine Fin.lastCases ?_ (fun i => ?_) i
    · simp only [cover, hn]
      exact le_max_right _ _
    · simp only [cover, hm, hl, if_true]
      exact (le_top f i).trans (le_max_left _ _)
  · refine le_top_of _ i.castSucc ?_
    simp only [cover, hm, hl, if_true]
    exact le_refl _
  · refine le_top_of _ (Fin.last n) ?_
    simp only [cover, hn]
    exact le_refl _

theorem num_last (M : EReal) : Soft.num mask (cover mask l) M (Fin.last n) = 0 := by
  simp [Soft.num, hn]

theorem num_cast (M : EReal) (i : Fin n) : Soft.num mask (cover mask l) M i.castSucc = Soft.num (fun _ => true) f M i := by
  simp [Soft.num, hm, hl, cover]

theorem prob_cast (i : Fin n) : Soft.prob mask (cover mask l) (top (cover mask l)) i.castSucc = Soft.prob (fun _ => true) f (top f) i := by
  obtain ⟨r, hr⟩ := low_real
  rw [← Soft.prob_shift (fun _ => true) (le_top f) r i, top_last mask l f hm hn hl, hr]
  unfold Soft.prob
  rw [Fin.sum_univ_castSucc, num_last mask l f hm hn hl, add_zero, num_cast mask l f hm hn hl]
  simp only [num_cast mask l f hm hn hl]

theorem prob_last : Soft.prob mask (cover mask l) (top (cover mask l)) (Fin.last n) = 0 := by
  have h : ∀ i, cover mask l i ≤ top (cover mask l) := le_top _
  choose g hg0 hg using Soft.num_real mask h
  unfold Soft.prob
  rw [num_last mask l f hm hn hl]
  simp only [hg, Soft.sum_coe]
  obtain ⟨k, -, -, e⟩ := Soft.div_dn (S := ∑ i, g i) (Finset.sum_nonneg fun i _ => hg0 i)
  rw [e, zero_mul]

/-- A weighted sum over the padded positions. -/
theorem sum_last (v : Fin (n + 1) → EReal) :
    ∑ i, Soft.prob mask (cover mask l) (top (cover mask l)) i * v i = ∑ i, Soft.prob (fun _ => true) f (top f) i * v i.castSucc := by
  rw [Fin.sum_univ_castSucc, prob_last mask l f hm hn hl, zero_mul, add_zero]
  simp only [prob_cast mask l f hm hn hl]

end last

section two

variable {a b c : ℕ} (m1 : Fin a → Bool) (m2 : Fin (b + c) → Bool) (m : Fin (a + b) → Bool)
  (l1 : Fin a → EReal) (l2 : Fin (b + c) → EReal) (l : Fin (a + b) → EReal)
  (hm1 : ∀ i, m (Fin.castAdd b i) = m1 i) (hm2 : ∀ i, m (Fin.natAdd a i) = m2 (Fin.castAdd c i)) (hc : ∀ i : Fin c, m2 (Fin.natAdd b i) = false)
  (hl1 : ∀ i, l (Fin.castAdd b i) = l1 i) (hl2 : ∀ i, l (Fin.natAdd a i) = l2 (Fin.castAdd c i))

include hm1 hm2 hc hl1 hl2

theorem max_two : max (max low (top (cover m1 l1))) (top (cover m2 l2)) = max (top (cover m l)) low := by
  refine le_antisymm (max_le (max_le (le_max_right _ _) (top_le _ _ fun i => ?_)) (top_le _ _ fun i => ?_)) (max_le (top_le _ _ fun i => ?_) ?_)
  · refine le_trans ?_ (le_max_left _ _)
    refine le_top_of _ (Fin.castAdd b i) ?_
    simp only [cover, hm1, hl1]
    exact le_refl _
  · refine Fin.addCases (fun i => ?_) (fun i => ?_) i
    · refine le_trans ?_ (le_max_left _ _)
      refine le_top_of _ (Fin.natAdd a i) ?_
      simp only [cover, hm2, hl2]
      exact le_refl _
    · simp only [cover, hc]
      exact le_max_right _ _
  · refine Fin.addCases (fun i => ?_) (fun i => ?_) i
    · refine le_trans ?_ ((le_max_right _ _).trans (le_max_left _ _))
      refine le_top_of _ i ?_
      simp only [cover, hm1, hl1]
      exact le_refl _
    · refine le_trans ?_ (le_max_right _ _)
      refine le_top_of _ (Fin.castAdd c i) ?_
      simp only [cover, hm2, hl2]
      exact le_refl _
  · exact (le_max_left _ _).trans (le_max_left _ _)

theorem sum_two (M : EReal) (v1 : Fin a → EReal) (v2 : Fin (b + c) → EReal) (v : Fin (a + b) → EReal)
    (hv1 : ∀ i, v (Fin.castAdd b i) = v1 i) (hv2 : ∀ i, v (Fin.natAdd a i) = v2 (Fin.castAdd c i)) :
    ∑ i, Soft.num m1 (cover m1 l1) M i * v1 i + ∑ i, Soft.num m2 (cover m2 l2) M i * v2 i = ∑ i, Soft.num m (cover m l) M i * v i := by
  rw [Fin.sum_univ_add, Fin.sum_univ_add (f := fun i => Soft.num m (cover m l) M i * v i)]
  have z : ∑ i : Fin c, Soft.num m2 (cover m2 l2) M (Fin.natAdd b i) * v2 (Fin.natAdd b i) = 0 :=
    Finset.sum_eq_zero fun i _ => by simp [Soft.num, hc]
  rw [z, add_zero]
  simp only [Soft.num, cover, hm1, hm2, hl1, hl2, hv1, hv2]

/-- Two tables one after the other. -/
theorem two (v1 : Fin a → EReal) (v2 : Fin (b + c) → EReal) (v : Fin (a + b) → EReal)
    (hv1 : ∀ i, v (Fin.castAdd b i) = v1 i) (hv2 : ∀ i, v (Fin.natAdd a i) = v2 (Fin.castAdd c i))
    (M1 M2 : EReal) (h1 : M1 = max low (top (cover m1 l1))) (h2 : M2 = max M1 (top (cover m2 l2))) (z : EReal) :
    Ideal.div (Ideal.exp (M1 - M2) * (z * 0 + ∑ i, Soft.num m1 (cover m1 l1) M1 i * v1 i) + ∑ i, Soft.num m2 (cover m2 l2) M2 i * v2 i)
      (Soft.dn (Ideal.exp (M1 - M2) * (z * 0 + ∑ i, Soft.num m1 (cover m1 l1) M1 i) + ∑ i, Soft.num m2 (cover m2 l2) M2 i))
      = ∑ i, Soft.prob m (cover m l) (top (cover m l)) i * v i := by
  obtain ⟨r, hr⟩ := low_real
  have e : M2 = max (top (cover m l)) low := by rw [h2, h1, max_two m1 m2 m l1 l2 l hm1 hm2 hc hl1 hl2]
  have hx : ∀ i, cover m1 l1 i ≤ M1 := fun i => h1 ▸ (le_top _ i).trans (le_max_right _ _)
  have hM : M1 ≤ M2 := h2 ▸ le_max_left _ _
  have hb : M1 ≠ ⊥ := fun h => by
    have : low ≤ M1 := h1 ▸ le_max_left _ _
    rw [h, hr] at this
    exact absurd (le_bot_iff.mp this) (EReal.coe_ne_bot r)
  have s1 := Soft.scale_sum m1 hx hM hb v1
  have s2 := Soft.scale_sum m1 hx hM hb fun _ => 1
  have t1 := sum_two m1 m2 m l1 l2 l hm1 hm2 hc hl1 hl2 M2 v1 v2 v hv1 hv2
  have t2 := sum_two m1 m2 m l1 l2 l hm1 hm2 hc hl1 hl2 M2 (fun _ => 1) (fun _ => 1) (fun _ => 1) (fun _ => rfl) (fun _ => rfl)
  simp only [mul_one] at s2 t2
  rw [mul_zero, zero_add, zero_add, s1, s2, t1, t2, Soft.div_after m (fun i => (le_top _ i).trans (e ▸ le_max_left _ _)) v, e, hr]
  simp only [Soft.prob_shift m (le_top (cover m l)) r]

end two

end Cert.SelMath

end
-- ==== Proof.SelPay.lean ====
/-
  The values one grid step of the attention kernel computes, read at an index: the weights of the compressed branch,
  the running maximum, sum and accumulation of the window branch, and the score of a block.
-/
module

public import proofs.«01_k».proof.Proof.Gen.KernelIdeal.Frame
public import proofs.«01_k».proof.Proof.SelMath
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.SelPay

open Cert.SelMath
open Cert.KernelIdeal Cert.KernelIdeal.Gen

/-- The lanes of the compressed branch. -/
def mC (n : Fin 512) : Bool := decide (n.val < 511)

/-- The lanes of the window's stored part. -/
def mW (y : Fin 32) (n : Fin 512) : Bool := decide (y.val % 4 < n.val)

/-- The lanes of the window's new part. -/
def mN (y : Fin 32) (n : Fin 128) : Bool := decide (n.val ≤ y.val % 4)

theorem low_bits : ∀ y : Fin 32, IntOp.andi (BitVec.ofNat 32 y.val) 3#32 = BitVec.ofNat 32 (y.val % 4) := by
  decide +kernel

theorem mC_bits : ∀ (q : Fin 4) (n : Fin 512), IntOp.andi (IntOp.cmpi .slt (BitVec.ofNat 32 n.val) 511#32)
    (IntOp.cmpi .sle (IntOp.addi (IntOp.muli (BitVec.ofNat 32 n.val) 16#32) 31#32) (IntOp.addi (8192#32) (BitVec.ofNat 32 q.val)))
      = BitVec.ofBool (mC n) := by
  decide +kernel

theorem mW_bits : ∀ (q : Fin 4) (n : Fin 512),
    IntOp.andi (IntOp.cmpi .sge (IntOp.subi (IntOp.addi (8192#32) (BitVec.ofNat 32 q.val)) (IntOp.addi (7680#32) (BitVec.ofNat 32 n.val))) 0#32)
      (IntOp.cmpi .slt (IntOp.subi (IntOp.addi (8192#32) (BitVec.ofNat 32 q.val)) (IntOp.addi (7680#32) (BitVec.ofNat 32 n.val))) 512#32)
      = BitVec.ofBool (decide (q.val < n.val)) := by
  decide +kernel

theorem mN_bits : ∀ (q : Fin 4) (n : Fin 128),
    IntOp.andi (IntOp.andi
      (IntOp.cmpi .sge (IntOp.subi (IntOp.addi (8192#32) (BitVec.ofNat 32 q.val)) (IntOp.addi (8192#32) (BitVec.ofNat 32 n.val))) 0#32)
      (IntOp.cmpi .slt (IntOp.subi (IntOp.addi (8192#32) (BitVec.ofNat 32 q.val)) (IntOp.addi (8192#32) (BitVec.ofNat 32 n.val))) 512#32))
      (IntOp.cmpi .slt (BitVec.ofNat 32 n.val) 4#32) = BitVec.ofBool (decide (n.val ≤ q.val)) := by
  decide +kernel

theorem mW_at (y : Fin 32) (n : Fin 512) : k0_pay125 (ix2 y n) = BitVec.ofBool (mW y n) := by
  unfold k0_pay125
  pointwise
  rw [low_bits, mW_bits ⟨y.val % 4, by omega⟩]
  rfl

theorem mN_at (y : Fin 32) (n : Fin 128) : k0_pay135 (ix2 y n) = BitVec.ofBool (mN y n) := by
  unfold k0_pay135
  pointwise
  rw [low_bits, mN_bits ⟨y.val % 4, by omega⟩]
  rfl

/-- A logit. -/
def lg {m : ℕ} (x : Fin 128 → EReal) (K : Fin m → Fin 128 → EReal) (B : Fin m → EReal) (n : Fin m) : EReal :=
  (∑ d : Fin 128, x d * K n d) * sc + B n

theorem pay3_at (X : FVec Ideal S1x32x128 .bf16) (K : FVec Ideal S1x512x128 .f32) (B : FVec Ideal S32x512 .f32) (y : Fin 32) (n : Fin 512) :
    (k0_pay3 (F := Ideal) X K B : FVec Ideal S32x512 .f32) (ix2 y n)
      = Soft.num mC (cover mC (lg (fun d => X (ix3 0 y d)) (fun n d => K (ix3 0 n d)) (fun n => B (ix2 y n))))
          (top (cover mC (lg (fun d => X (ix3 0 y d)) (fun n d => K (ix3 0 n d)) (fun n => B (ix2 y n))))) n := by
  unfold k0_pay3 k0_pay2
  pointwise
  simp only [low_bits, mC_bits ⟨y.val % 4, Nat.mod_lt _ (by decide)⟩, sel]
  rfl

theorem pay4_at (X : FVec Ideal S1x32x128 .bf16) (K : FVec Ideal S1x512x128 .f32) (B : FVec Ideal S32x512 .f32) (y : Fin 32) (n : Fin 1) :
   (k0_pay4 (F := Ideal) X K B : FVec Ideal S32x1 .f32) (ix2 y n) = ∑ x, k0_pay3 X K B (ix2 y x) := by
  unfold k0_pay4
  pointwise

/-- The weights of the compressed branch. -/
theorem pay7_at (X : FVec Ideal S1x32x128 .bf16) (K : FVec Ideal S1x512x128 .f32) (B : FVec Ideal S32x512 .f32) (y : Fin 32) (n : Fin 512) :
   (k0_pay7 (F := Ideal) (k0_pay3 X K B) (k0_pay4 X K B) (k0_pay5 (F := Ideal) X K B) k0_pay6 : FVec Ideal S32x512 .f32) (ix2 y n)
      = Soft.prob mC (cover mC (lg (fun d => X (ix3 0 y d)) (fun n d => K (ix3 0 n d)) (fun n => B (ix2 y n))))
          (top (cover mC (lg (fun d => X (ix3 0 y d)) (fun n d => K (ix3 0 n d)) (fun n => B (ix2 y n))))) n := by
  unfold k0_pay7 k0_pay5 k0_pay6
  pointwise
  simp only [pay4_at, pay3_at]
  rfl

theorem pay8_at (a : FVec Ideal S32x512 .f32) (b : FVec Ideal S32x1 .f32) (c : IVec S32x1 1) (d : FVec Ideal S32x1 .f32) (e : FVec Ideal S1x512x128 .f32) (y : Fin 32) (n : Fin 128) :
   (k0_pay8 (F := Ideal) a b c d e : FVec Ideal S1x32x128 .f32) (ix3 0 y n) = ∑ x : Fin 512, k0_pay7 a b c d (ix2 y x) * e (ix3 0 x n) := by
  unfold k0_pay8
  pointwise

/-- The sum over the heads of a group. -/
def psum (a : FVec Ideal S32x512 .f32) (b : FVec Ideal S32x1 .f32) (c : IVec S32x1 1) (d : FVec Ideal S32x1 .f32) (y : Fin 8) (x : Fin 512) : EReal :=
  k0_pay7 a b c d (ix2 ⟨y.val, by omega⟩ x) + k0_pay7 a b c d (ix2 ⟨8 + y.val, by omega⟩ x)
    + k0_pay7 a b c d (ix2 ⟨16 + y.val, by omega⟩ x) + k0_pay7 a b c d (ix2 ⟨24 + y.val, by omega⟩ x)

theorem pay9_at (a : FVec Ideal S32x512 .f32) (b : FVec Ideal S32x1 .f32) (c : IVec S32x1 1) (d : FVec Ideal S32x1 .f32) (e f : FVec Ideal S512x256 .bf16) (y : Fin 8) (n : Fin 256) :
   (k0_pay9 (F := Ideal) a b c d e f : FVec Ideal S8x256 .f32) (ix2 y n)
     = ∑ x : Fin 512, psum a b c d y x * e (ix2 x n) + ∑ x : Fin 512, (psum a b c d y x - psum a b c d y x) * f (ix2 x n) := by
  unfold k0_pay9
  pointwise
  rfl

theorem own_bits : ∀ (q : Fin 4) (n : Fin 129),
    IntOp.ori (IntOp.ori (IntOp.cmpi .eq (BitVec.ofNat 32 n.val) 0#32)
        (IntOp.cmpi .eq (BitVec.ofNat 32 n.val) (IntOp.shrsi .vector (IntOp.addi (8192#32) (BitVec.ofNat 32 q.val)) 6#32)))
      (IntOp.cmpi .eq (BitVec.ofNat 32 n.val) (IntOp.subi (IntOp.shrsi .vector (IntOp.addi (8192#32) (BitVec.ofNat 32 q.val)) 6#32) 1#32))
      = BitVec.ofBool (own n.val) := by
  decide +kernel

theorem past_bits : ∀ (q : Fin 4) (n : Fin 129), IntOp.cmpi .sgt (IntOp.muli (BitVec.ofNat 32 n.val) 64#32) (IntOp.addi (8192#32) (BitVec.ofNat 32 q.val))
      = BitVec.ofBool false := by
  decide +kernel

theorem lane_bits : ∀ (n : Fin 129), IntOp.cmpi .slt (BitVec.ofNat 32 n.val) 129#32 = BitVec.ofBool true := by
  decide +kernel

/-- The score of a block. -/
theorem pay14_at (a : FVec Ideal S8x256 .f32) (y : Fin 8) (n : Fin 129) :
    (k0_pay14 (F := Ideal) a (iota .tc S8x256 32 [1] iota_S8x256_d1_w32) k0_pay10 k0_pay12 k0_pay13 : FVec Ideal S8x256 .f32) (ix2 y ⟨n.val, by omega⟩)
      = if own n.val then Ideal.ofBits .f32 0x49742400#32 else a (ix2 y ⟨n.val, by omega⟩) := by
  unfold k0_pay14 k0_pay10 k0_pay12 k0_pay13 k0_pay11 k0_pay10
  pointwise
  have e : IntOp.andi (BitVec.ofNat 32 y.val) 3#32 = BitVec.ofNat 32 (y.val % 4) := low_bits ⟨y.val, by omega⟩
  simp only [e, own_bits ⟨y.val % 4, Nat.mod_lt _ (by decide)⟩ n, past_bits ⟨y.val % 4, Nat.mod_lt _ (by decide)⟩ n, lane_bits n, sel]
  rfl

/-- The running maximum after the stored part. -/
theorem pay128_at (X : FVec Ideal S1x32x128 .bf16) (K : FVec Ideal S1x512x128 .f32) (B : FVec Ideal S32x512 .f32) (y : Fin 32) (n : Fin 1) :
   (k0_pay128 (F := Ideal) (k0_pay2 X) K B : FVec Ideal S32x1 .f32) (ix2 y n)
      = max low (top (cover (mW y) (lg (fun d => X (ix3 0 y d)) (fun n d => K (ix3 0 n d)) (fun n => B (ix2 y n))))) := by
  unfold k0_pay128 k0_pay127 k0_pay122 k0_pay2
  pointwise
  simp only [mW_at, sel]
  rfl

variable (X : FVec Ideal S1x32x128 .bf16) (K V : FVec Ideal S1x512x128 .f32) (B : FVec Ideal S32x512 .f32)
  (K' V' : FVec Ideal S1x128x128 .f32) (B' : FVec Ideal S32x128 .f32)

/-- The masked logits of the stored part. -/
def l1 (y : Fin 32) : Fin 512 → EReal := cover (mW y) (lg (fun d => X (ix3 0 y d)) (fun n d => K (ix3 0 n d)) (fun n => B (ix2 y n)))

/-- The masked logits of the new part. -/
def l2 (y : Fin 32) : Fin 128 → EReal := cover (mN y) (lg (fun d => X (ix3 0 y d)) (fun n d => K' (ix3 0 n d)) (fun n => B' (ix2 y n)))

/-- The largest logit of the stored part. -/
def max1 (y : Fin 32) : EReal := max low (top (l1 X K B y))

/-- The largest logit of both parts. -/
def max2 (y : Fin 32) : EReal := max (max1 X K B y) (top (l2 X K' B' y))

theorem pay131_at (y : Fin 32) (n : Fin 512) :
    (k0_pay131 (F := Ideal) k0_pay125 (k0_pay130 (k0_pay2 X) K B) : FVec Ideal S32x512 .f32) (ix2 y n) = Soft.num (mW y) (l1 X K B y) (max1 X K B y) n := by
  unfold k0_pay131 k0_pay130
  pointwise
  simp only [mW_at, sel, pay128_at]
  unfold k0_pay127 k0_pay2
  pointwise
  simp only [mW_at, sel]
  rfl

theorem pay132_at (y : Fin 32) (n : Fin 1) :
    (k0_pay132 (F := Ideal) k0_pay123 k0_pay125 (k0_pay129 (k0_pay2 X) K B) (k0_pay130 (k0_pay2 X) K B) : FVec Ideal S32x1 .f32) (ix2 y n)
      = Ideal.exp (low - max1 X K B y) * 0 + ∑ x : Fin 512, Soft.num (mW y) (l1 X K B y) (max1 X K B y) x := by
  unfold k0_pay132 k0_pay123 k0_pay129 k0_pay122
  pointwise
  simp only [pay131_at, pay128_at]
  rfl

theorem pay133_at (y : Fin 32) (n : Fin 128) :
    (k0_pay133 (F := Ideal) k0_pay124 k0_pay125 (k0_pay126 V) (k0_pay129 (k0_pay2 X) K B) (k0_pay130 (k0_pay2 X) K B) : FVec Ideal S32x128 .f32) (ix2 y n)
      = Ideal.exp (low - max1 X K B y) * 0 + ∑ x : Fin 512, Soft.num (mW y) (l1 X K B y) (max1 X K B y) x * V (ix3 0 x n) := by
  unfold k0_pay133 k0_pay124 k0_pay129 k0_pay122 k0_pay126
  pointwise
  simp only [pay131_at, pay128_at]
  rfl

theorem pay137_at (y : Fin 32) (n : Fin 128) :
    (k0_pay137 (F := Ideal) (k0_pay134 (k0_pay2 X) K' B') k0_pay135 low : FVec Ideal S32x128 .f32) (ix2 y n) = l2 X K' B' y n := by
  unfold k0_pay137 k0_pay134 k0_pay2
  pointwise
  simp only [mN_at, sel]
  rfl

theorem pay138_at (y : Fin 32) (n : Fin 1) :
    (k0_pay138 (F := Ideal) (k0_pay128 (k0_pay2 X) K B) (k0_pay134 (k0_pay2 X) K' B') k0_pay135 low : FVec Ideal S32x1 .f32) (ix2 y n)
      = max2 X K B K' B' y := by
  unfold k0_pay138
  pointwise
  simp only [pay137_at, pay128_at]
  rfl

theorem pay140_at (y : Fin 32) (n : Fin 128) :
    (k0_pay140 (F := Ideal) (k0_pay128 (k0_pay2 X) K B) (k0_pay134 (k0_pay2 X) K' B') k0_pay135 low : FVec Ideal S32x128 .f32) (ix2 y n)
      = Soft.num (mN y) (l2 X K' B' y) (max2 X K B K' B' y) n := by
  unfold k0_pay140
  pointwise
  simp only [pay138_at, pay137_at, mN_at, sel]
  rfl

theorem pay141_at (y : Fin 32) (n : Fin 1) (b : FVec Ideal S32x1 .f32) :
    (k0_pay141 (F := Ideal) (k0_pay128 (k0_pay2 X) K B) b (k0_pay134 (k0_pay2 X) K' B') k0_pay135 low : FVec Ideal S32x1 .f32) (ix2 y n)
      = Ideal.exp (max1 X K B y - max2 X K B K' B' y) * b (ix2 y n) + ∑ x : Fin 128, Soft.num (mN y) (l2 X K' B' y) (max2 X K B K' B' y) x := by
  unfold k0_pay141 k0_pay139
  pointwise
  simp only [pay138_at, pay128_at, pay140_at]
  rfl

theorem pay142_at (y : Fin 32) (n : Fin 128) (b : FVec Ideal S32x128 .f32) :
    (k0_pay142 (F := Ideal) (k0_pay128 (k0_pay2 X) K B) b (k0_pay134 (k0_pay2 X) K' B') k0_pay135 low : FVec Ideal S32x128 .f32) (ix2 y n)
      = Ideal.exp (max1 X K B y - max2 X K B K' B' y) * b (ix2 y n) := by
  unfold k0_pay142 k0_pay139
  pointwise
  simp only [pay138_at, pay128_at]
  rfl

theorem pay1_at (a : FVec Ideal S128x128 .bf16) (c : FVec Ideal S32x128 .f32) (d : FVec Ideal S32x1 .f32) (e : FVec Ideal S32x128 .f32) (y : Fin 32) (n : Fin 128) :
    (k0_pay1 (F := Ideal) a c d e : FVec Ideal S1x32x128 .f32) (ix3 0 y n)
      = Ideal.div (e (ix2 y n) + ∑ x : Fin 128, c (ix2 y x) * a (ix2 x n)) (Soft.dn (d (ix2 y 0))) := by
  unfold k0_pay1
  pointwise
  rfl

theorem pay136_at (x n : Fin 128) : (k0_pay136 (F := Ideal) V' : FVec Ideal S128x128 .bf16) (ix2 x n) = V' (ix3 0 x n) := by
  unfold k0_pay136
  pointwise

/-- The result of the window branch. -/
theorem win_at (y : Fin 32) (n : Fin 128) :
    (k0_pay1 (F := Ideal) (k0_pay136 V') (k0_pay140 (k0_pay128 (k0_pay2 X) K B) (k0_pay134 (k0_pay2 X) K' B') k0_pay135 low)
      (k0_pay141 (k0_pay128 (k0_pay2 X) K B) (k0_pay132 k0_pay123 k0_pay125 (k0_pay129 (k0_pay2 X) K B) (k0_pay130 (k0_pay2 X) K B))
        (k0_pay134 (k0_pay2 X) K' B') k0_pay135 low)
      (k0_pay142 (k0_pay128 (k0_pay2 X) K B) (k0_pay133 k0_pay124 k0_pay125 (k0_pay126 V) (k0_pay129 (k0_pay2 X) K B) (k0_pay130 (k0_pay2 X) K B))
        (k0_pay134 (k0_pay2 X) K' B') k0_pay135 low) : FVec Ideal S1x32x128 .f32) (ix3 0 y n)
      = Ideal.div (Ideal.exp (max1 X K B y - max2 X K B K' B' y)
            * (Ideal.exp (low - max1 X K B y) * 0 + ∑ x : Fin 512, Soft.num (mW y) (l1 X K B y) (max1 X K B y) x * V (ix3 0 x n))
          + ∑ x : Fin 128, Soft.num (mN y) (l2 X K' B' y) (max2 X K B K' B' y) x * V' (ix3 0 x n))
        (Soft.dn (Ideal.exp (max1 X K B y - max2 X K B K' B' y)
            * (Ideal.exp (low - max1 X K B y) * 0 + ∑ x : Fin 512, Soft.num (mW y) (l1 X K B y) (max1 X K B y) x)
          + ∑ x : Fin 128, Soft.num (mN y) (l2 X K' B' y) (max2 X K B K' B' y) x)) := by
  rw [pay1_at]
  simp only [pay142_at, pay141_at, pay140_at, pay136_at, pay133_at, pay132_at]

end Cert.SelPay

end
-- ==== Proof.SelTop.lean ====
/-
  The first places of a stable descending sort: an entry is among the first `m` exactly when fewer than `m` entries come
  before it, an entry coming before another when it is larger, or equal with the smaller index.
-/
module

public import Idealize.ShloMosaic.PureOps.Ideal
public import Idealize.ShloMosaic.Lib.SortFacts

@[expose] public section

noncomputable section

open Idealize.ShloMosaic

namespace Cert.SelTop

variable {n : ℕ} (x : Fin n → EReal)

/-- Entry `a` comes before entry `b`. -/
def Pre (a b : Fin n) : Prop := x b < x a ∨ (x a = x b ∧ a < b)

/-- The number of entries before `b`. -/
def rank (b : Fin n) : ℕ := by
  classical exact (Finset.univ.filter fun a => Pre x a b).card

theorem pre_irrefl (a : Fin n) : ¬ Pre x a a := by
  rintro (h | ⟨-, h⟩)
  · exact lt_irrefl _ h
  · exact lt_irrefl _ h

theorem pre_trans {a b c : Fin n} (h : Pre x a b) (h' : Pre x b c) : Pre x a c := by
  rcases h with h | ⟨h, hi⟩ <;> rcases h' with h' | ⟨h', hi'⟩
  · exact .inl (h'.trans h)
  · exact .inl (h' ▸ h)
  · exact .inl (h ▸ h')
  · exact .inr ⟨h.trans h', hi.trans hi'⟩

theorem pre_total {a b : Fin n} (h : a ≠ b) : Pre x a b ∨ Pre x b a := by
  rcases lt_trichotomy (x a) (x b) with hx | hx | hx
  · exact .inr (.inl hx)
  · rcases lt_or_gt_of_ne h with hi | hi
    · exact .inl (.inr ⟨hx, hi⟩)
    · exact .inr (.inr ⟨hx.symm, hi⟩)
  · exact .inl (.inl hx)

/-- On a list in increasing order the stable sort only asks whether a later entry is larger. -/
theorem stable_agree (R R' : Fin n → Fin n → Bool) (h : ∀ a b : Fin n, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The order as a test. -/
def test (a b : Fin n) : Bool := by
  classical exact decide (Pre x a b)

theorem test_iff (a b : Fin n) : test x a b = true ↔ Pre x a b := by
  unfold test
  exact @decide_eq_true_iff _ (Classical.propDecidable _)

theorem sorted_agree (R : Fin n → Fin n → Bool) (hR : ∀ a b, R a b = true ↔ x b < x a) : sortedFrom R = sortedFrom (test x) := by
  funext k
  unfold sortedFrom
  have e : sortPositions n R = sortPositions n (test x) := by
    refine stable_agree _ _ (fun a b hab => ?_) _ (List.pairwise_lt_finRange n)
    rw [Bool.eq_iff_iff, hR, test_iff]
    exact ⟨.inl, fun h => h.elim id fun h => absurd (hab.trans h.2) (lt_irrefl _)⟩
  rw [List.get_of_eq e]
  rfl

theorem sorted_pre {i j : Fin n} (h : i < j) : Pre x (sortedFrom (test x) i) (sortedFrom (test x) j) := by
  have hf : ∀ a b, test x a b = false ↔ ¬ Pre x a b := fun a b => by rw [← test_iff, Bool.not_eq_true]
  have hn := sortedFrom_noInversion (test x) (test x)
    (fun a b hab => (hf _ _).mpr fun hba => pre_irrefl x a (pre_trans x ((test_iff x a b).mp hab) hba))
    (fun _ _ => id)
    (fun a b c hab hbc => (hf _ _).mpr fun hac => by
      rw [hf] at hab hbc
      by_cases e : a = b
      · exact hbc (e ▸ hac)
      · exact hbc (pre_trans x ((pre_total x e).resolve_left hab) hac)) i j h
  exact (pre_total x fun e => h.ne (sortedFrom_injective _ e)).resolve_right ((hf _ _).mp hn)

theorem rank_sorted (k : Fin n) : rank x (sortedFrom (test x) k) = k.val := by
  classical
  have e : (Finset.univ.filter fun a => Pre x a (sortedFrom (test x) k)) = (Finset.Iio k).image (sortedFrom (test x)) := by
    ext a
    obtain ⟨i, rfl⟩ := sortedFrom_surjective (test x) a
    simp only [Finset.mem_filter, Finset.mem_univ, true_and, Finset.mem_image, Finset.mem_Iio]
    constructor
    · intro h
      refine ⟨i, ?_, rfl⟩
      rcases lt_trichotomy i k with hi | rfl | hi
      · exact hi
      · exact absurd h (pre_irrefl x _)
      · exact absurd (pre_trans x h (sorted_pre x hi)) (pre_irrefl x _)
    · rintro ⟨j, hj, e⟩
      rw [← e]
      exact sorted_pre x hj
  unfold rank
  convert congrArg Finset.card e using 1
  rw [Finset.card_image_of_injective _ (sortedFrom_injective _), Fin.card_Iio]

/-- An entry is among the first `m` places exactly when fewer than `m` entries come before it. -/
theorem mem_top {m : ℕ} (hm : m ≤ n) (R : Fin n → Fin n → Bool) (hR : ∀ a b, R a b = true ↔ x b < x a) (b : Fin n) :
    (∃ s : Fin m, sortedFrom R ⟨s.val, by omega⟩ = b) ↔ rank x b < m := by
  rw [sorted_agree x R hR]
  constructor
  · rintro ⟨s, rfl⟩
    rw [rank_sorted]
    exact s.isLt
  · intro h
    obtain ⟨k, rfl⟩ := sortedFrom_surjective (test x) b
    rw [rank_sorted] at h
    exact ⟨⟨k.val, h⟩, rfl⟩

/-- The number of entries before `b`, as a sum. -/
theorem sum_rank (b : Fin n) (f : Fin n → EReal) (h1 : ∀ a, Pre x a b → f a = 1) (h0 : ∀ a, ¬ Pre x a b → f a = 0) :
    ∑ a, f a = ((rank x b : ℝ) : EReal) := by
  classical
  have e : f = fun a => (((if Pre x a b then 1 else 0 : ℝ)) : EReal) := by
    funext a
    split
    · rw [h1 a ‹_›]; rfl
    · rw [h0 a ‹_›]; rfl
  have s : ∀ g : Fin n → ℝ, ∑ a, (g a : EReal) = ((∑ a, g a : ℝ) : EReal) := fun g => by
    induction (Finset.univ : Finset (Fin n)) using Finset.cons_induction with
    | empty => simp
    | cons a s ha ih => rw [Finset.sum_cons, Finset.sum_cons, ih, EReal.coe_add]
  rw [e, s, Finset.sum_boole]
  unfold rank
  congr

end Cert.SelTop

end
-- ==== Proof.SelRef.lean ====
/-
  The reference of the attention read in stages: the logits and weights of the compressed and of the window branch,
  the score of a block, and the three results; each read at an index.
-/
module

public import proofs.«01_k».proof.Proof.Gen.ReferenceIdeal.Run
public import proofs.«01_k».proof.Proof.SelMath
public import proofs.«01_k».proof.Proof.SelTop
public import Idealize.ShloMosaic.Lib.Routing.OpsOrder
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.SelRef

open Cert.SelMath
open Cert.ReferenceIdeal Cert.ReferenceIdeal.Gen

/-- The query heads. -/
def qf (A0 : FVec Ideal S128x512 .bf16) : FVec Ideal S32x4x4x2x64 .f32 :=
  shapeCast _ (extf .f32 A0 bitsLt_bf16_f32) shapeCasts_S128x512_S32x4x4x2x64

/-- The position of a query. -/
def pos  : IVec S4 32 :=
  addi (broadcastInDim S4 ![] bcast_S_S4 (constantI S_ 32 8192#32)) (iotaInDim S4 32 0)

/-- The mask of the compressed branch. -/
def maskC  : IVec S4x511 1 :=
  cmpi .sge (subi (broadcastInDim S4x511 ![0, 1] bcast_S4x1_S4x511_0_1 (broadcastInDim S4x1 ![0] bcast_S4_S4x1_0 pos)) (broadcastInDim S4x511 ![0, 1] bcast_S1x511_S4x511_0_1 (broadcastInDim S1x511 ![1] bcast_S511_S1x511_1 (addi (muli (iotaInDim S511 32 0) (broadcastInDim S511 ![] bcast_S_S511 (constantI S_ 32 16#32))) (broadcastInDim S511 ![] bcast_S_S511 (constantI S_ 32 31#32)))))) (broadcastInDim S4x511 ![] bcast_S_S4x511 (constantI S_ 32 0#32))

/-- The masked logits of the compressed branch. -/
def logC (A0 : FVec Ideal S128x512 .bf16) (A1 : FVec Ideal S32x512x128 .f32) (A7 : FVec Ideal S32x512 .f32) : FVec Ideal S32x4x2x4x511 .f32 :=
  select (broadcastInDim S32x4x2x4x511 ![3, 4] bcast_S4x511_S32x4x2x4x511_3_4 maskC) (addf (mulf (transpose S32x4x2x4x511 [0, 4, 1, 3, 2] (Host.dotGeneral dot_S32x511x2x64_S32x4x4x2x64_S32x2x511x4x4_3_4_1_12_02_03 none (extractStridedSlice S32x511x2x64 ![0, 0, 0, 0] (shapeCast _ A1 shapeCasts_S32x512x128_S32x512x2x64) slices_S32x512x2x64_S32x511x2x64_0_0_0_0) (qf A0)) transposes_S32x2x511x4x4_S32x4x2x4x511_0_4_1_3_2) (broadcastInDim S32x4x2x4x511 ![] bcast_S_S32x4x2x4x511 (constant S_ .f32 0x3E000000#32))) (broadcastInDim S32x4x2x4x511 ![0, 1, 2, 3, 4] bcast_S1x4x2x4x511_S32x4x2x4x511_0_1_2_3_4 (broadcastInDim S1x4x2x4x511 ![1, 2, 3, 4] bcast_S4x2x4x511_S1x4x2x4x511_1_2_3_4 (shapeCast _ (extractStridedSlice S32x511 ![0, 0] A7 slices_S32x512_S32x511_0_0) shapeCasts_S32x511_S4x2x4x511)))) (broadcastInDim S32x4x2x4x511 ![] bcast_S_S32x4x2x4x511 (id (constant S_ .f32 0xF149F2CA#32)))

/-- The unnormalized weights of the compressed branch. -/
def numC (A0 : FVec Ideal S128x512 .bf16) (A1 : FVec Ideal S32x512x128 .f32) (A7 : FVec Ideal S32x512 .f32) : FVec Ideal S32x4x2x4x511 .f32 :=
  select (broadcastInDim S32x4x2x4x511 ![3, 4] bcast_S4x511_S32x4x2x4x511_3_4 maskC) (Host.exp (subf (logC A0 A1 A7) (broadcastInDim S32x4x2x4x511 ![0, 1, 2, 3, 4] bcast_S32x4x2x4x1_S32x4x2x4x511_0_1_2_3_4 (broadcastInDim S32x4x2x4x1 ![0, 1, 2, 3] bcast_S32x4x2x4_S32x4x2x4x1_0_1_2_3 (Host.reduce FloatOps.maximumf (logC A0 A1 A7) (constant S_ .f32 0xFF800000#32) reducesTo_S32x4x2x4x511_S32x4x2x4_d4 h_S_))))) (broadcastInDim S32x4x2x4x511 ![] bcast_S_S32x4x2x4x511 (id (constant S_ .f32 0x00000000#32)))

/-- Their sums. -/
def sumC (A0 : FVec Ideal S128x512 .bf16) (A1 : FVec Ideal S32x512x128 .f32) (A7 : FVec Ideal S32x512 .f32) : FVec Ideal S32x4x2x4x1 .f32 :=
  broadcastInDim S32x4x2x4x1 ![0, 1, 2, 3] bcast_S32x4x2x4_S32x4x2x4x1_0_1_2_3 (Host.reduceAdd (numC A0 A1 A7) (constant S_ .f32 0x00000000#32) reducesTo_S32x4x2x4x511_S32x4x2x4_d4 h_S_)

/-- The weights of the compressed branch. -/
def probC (A0 : FVec Ideal S128x512 .bf16) (A1 : FVec Ideal S32x512x128 .f32) (A7 : FVec Ideal S32x512 .f32) : FVec Ideal S32x4x2x4x511 .f32 :=
  Host.divf (numC A0 A1 A7) (broadcastInDim S32x4x2x4x511 ![0, 1, 2, 3, 4] bcast_S32x4x2x4x1_S32x4x2x4x511_0_1_2_3_4 (select (cmpf .ogt (sumC A0 A1 A7) (broadcastInDim S32x4x2x4x1 ![] bcast_S_S32x4x2x4x1 (constant S_ .f32 0x00000000#32))) (sumC A0 A1 A7) (broadcastInDim S32x4x2x4x1 ![] bcast_S_S32x4x2x4x1 (id (constant S_ .f32 0x3F800000#32)))))

/-- The block numbers. -/
def blkI  : IVec S1x129 32 :=
  broadcastInDim S1x129 ![1] bcast_S129_S1x129_1 (iotaInDim S129 32 0)

/-- The block length. -/
def c64  : IVec S_ 32 :=
  id (constantI S_ 32 64#32)

/-- The quotient of the position by the block length. -/
def quot  : IVec S4 32 :=
  Host.divsi pos (broadcastInDim S4 ![] bcast_S_S4 c64)

/-- The block of a query. -/
def curI  : IVec S4x1 32 :=
  broadcastInDim S4x1 ![0] bcast_S4_S4x1_0 (select (andi (cmpi .ne (signi pos) (broadcastInDim S4 ![] bcast_S_S4 (signi c64))) (cmpi .ne (Host.remsi pos (broadcastInDim S4 ![] bcast_S_S4 c64)) (broadcastInDim S4 ![] bcast_S_S4 (constantI S_ 32 0#32)))) (subi quot (broadcastInDim S4 ![] bcast_S_S4 (constantI S_ 32 1#32))) quot)

/-- The score of a block. -/
def score (A0 : FVec Ideal S128x512 .bf16) (A1 : FVec Ideal S32x512x128 .f32) (A7 : FVec Ideal S32x512 .f32) (A10 : FVec Ideal S512x256 .bf16) : FVec Ideal S32x2x4x129 .f32 :=
  select (broadcastInDim S32x2x4x129 ![2, 3] bcast_S4x129_S32x2x4x129_2_3 (ori (ori (broadcastInDim S4x129 ![0, 1] bcast_S1x129_S4x129_0_1 (cmpi .eq blkI (broadcastInDim S1x129 ![] bcast_S_S1x129 (constantI S_ 32 0#32)))) (cmpi .eq (broadcastInDim S4x129 ![0, 1] bcast_S1x129_S4x129_0_1 blkI) (broadcastInDim S4x129 ![0, 1] bcast_S4x1_S4x129_0_1 curI))) (cmpi .eq (broadcastInDim S4x129 ![0, 1] bcast_S1x129_S4x129_0_1 blkI) (broadcastInDim S4x129 ![0, 1] bcast_S4x1_S4x129_0_1 (subi curI (broadcastInDim S4x1 ![] bcast_S_S4x1 (constantI S_ 32 1#32))))))) (broadcastInDim S32x2x4x129 ![] bcast_S_S32x2x4x129 (id (constant S_ .f32 0x49742400#32))) (select (broadcastInDim S32x2x4x129 ![2, 3] bcast_S4x129_S32x2x4x129_2_3 (cmpi .sgt (broadcastInDim S4x129 ![0, 1] bcast_S1x129_S4x129_0_1 (muli blkI (broadcastInDim S1x129 ![] bcast_S_S1x129 (constantI S_ 32 64#32)))) (broadcastInDim S4x129 ![0, 1] bcast_S4x1_S4x129_0_1 (broadcastInDim S4x1 ![0] bcast_S4_S4x1_0 pos)))) (broadcastInDim S32x2x4x129 ![] bcast_S_S32x2x4x129 (id (constant S_ .f32 0xC9742400#32))) (Host.dotGeneral dot_S32x2x4x511_S511x129_S32x2x4x129_3_0_012_1_n_n none (Host.reduceAdd (probC A0 A1 A7) (constant S_ .f32 0x00000000#32) reducesTo_S32x4x2x4x511_S32x2x4x511_d1 h_S_) (extf .f32 (extractStridedSlice S511x129 ![0, 0] A10 slices_S512x256_S511x129_0_0) bitsLt_bf16_f32)))

/-- The positions of the window. -/
def posW  : IVec S516 32 :=
  addi (broadcastInDim S516 ![] bcast_S_S516 (constantI S_ 32 7680#32)) (iotaInDim S516 32 0)

/-- The distance of a query from a position. -/
def distW  : IVec S4x516 32 :=
  subi (broadcastInDim S4x516 ![0, 1] bcast_S4x1_S4x516_0_1 (broadcastInDim S4x1 ![0] bcast_S4_S4x1_0 pos)) (broadcastInDim S4x516 ![0, 1] bcast_S1x516_S4x516_0_1 (broadcastInDim S1x516 ![1] bcast_S516_S1x516_1 posW))

/-- The mask of the window branch. -/
def maskW  : IVec S4x516 1 :=
  andi (andi (cmpi .sge distW (broadcastInDim S4x516 ![] bcast_S_S4x516 (constantI S_ 32 0#32))) (cmpi .slt distW (broadcastInDim S4x516 ![] bcast_S_S4x516 (constantI S_ 32 512#32)))) (broadcastInDim S4x516 ![0, 1] bcast_S1x516_S4x516_0_1 (broadcastInDim S1x516 ![1] bcast_S516_S1x516_1 (cmpi .sge posW (broadcastInDim S516 ![] bcast_S_S516 (constantI S_ 32 0#32)))))

/-- The masked logits of the window branch. -/
def logW (A0 : FVec Ideal S128x512 .bf16) (A3 : FVec Ideal S32x512x128 .f32) (A5 : FVec Ideal S128x128 .f32) (A8 : FVec Ideal S32x512 .f32) (A9 : FVec Ideal S32x128 .f32) : FVec Ideal S32x4x2x4x516 .f32 :=
  select (broadcastInDim S32x4x2x4x516 ![3, 4] bcast_S4x516_S32x4x2x4x516_3_4 maskW) (addf (mulf (transpose S32x4x2x4x516 [0, 4, 1, 3, 2] (Host.dotGeneral dot_S32x516x2x64_S32x4x4x2x64_S32x2x516x4x4_3_4_1_12_02_03 none (concatenate S32x516x2x64 1 [⟨S32x512x2x64, (shapeCast _ A3 shapeCasts_S32x512x128_S32x512x2x64)⟩, ⟨S32x4x2x64, (shapeCast _ A5 shapeCasts_S128x128_S32x4x2x64)⟩] concatenates_S32x512x2x64_S32x4x2x64_S32x516x2x64_d1) (qf A0)) transposes_S32x2x516x4x4_S32x4x2x4x516_0_4_1_3_2) (broadcastInDim S32x4x2x4x516 ![] bcast_S_S32x4x2x4x516 (constant S_ .f32 0x3E000000#32))) (broadcastInDim S32x4x2x4x516 ![0, 1, 2, 3, 4] bcast_S1x4x2x4x516_S32x4x2x4x516_0_1_2_3_4 (broadcastInDim S1x4x2x4x516 ![1, 2, 3, 4] bcast_S4x2x4x516_S1x4x2x4x516_1_2_3_4 (shapeCast _ (concatenate S32x516 1 [⟨S32x512, A8⟩, ⟨S32x4, (extractStridedSlice S32x4 ![0, 0] A9 slices_S32x128_S32x4_0_0)⟩] concatenates_S32x512_S32x4_S32x516_d1) shapeCasts_S32x516_S4x2x4x516)))) (broadcastInDim S32x4x2x4x516 ![] bcast_S_S32x4x2x4x516 (id (constant S_ .f32 0xF149F2CA#32)))

/-- The unnormalized weights of the window branch. -/
def numW (A0 : FVec Ideal S128x512 .bf16) (A3 : FVec Ideal S32x512x128 .f32) (A5 : FVec Ideal S128x128 .f32) (A8 : FVec Ideal S32x512 .f32) (A9 : FVec Ideal S32x128 .f32) : FVec Ideal S32x4x2x4x516 .f32 :=
  select (broadcastInDim S32x4x2x4x516 ![3, 4] bcast_S4x516_S32x4x2x4x516_3_4 maskW) (Host.exp (subf (logW A0 A3 A5 A8 A9) (broadcastInDim S32x4x2x4x516 ![0, 1, 2, 3, 4] bcast_S32x4x2x4x1_S32x4x2x4x516_0_1_2_3_4 (broadcastInDim S32x4x2x4x1 ![0, 1, 2, 3] bcast_S32x4x2x4_S32x4x2x4x1_0_1_2_3 (Host.reduce FloatOps.maximumf (logW A0 A3 A5 A8 A9) (constant S_ .f32 0xFF800000#32) reducesTo_S32x4x2x4x516_S32x4x2x4_d4 h_S_))))) (broadcastInDim S32x4x2x4x516 ![] bcast_S_S32x4x2x4x516 (id (constant S_ .f32 0x00000000#32)))

/-- Their sums. -/
def sumW (A0 : FVec Ideal S128x512 .bf16) (A3 : FVec Ideal S32x512x128 .f32) (A5 : FVec Ideal S128x128 .f32) (A8 : FVec Ideal S32x512 .f32) (A9 : FVec Ideal S32x128 .f32) : FVec Ideal S32x4x2x4x1 .f32 :=
  broadcastInDim S32x4x2x4x1 ![0, 1, 2, 3] bcast_S32x4x2x4_S32x4x2x4x1_0_1_2_3 (Host.reduceAdd (numW A0 A3 A5 A8 A9) (constant S_ .f32 0x00000000#32) reducesTo_S32x4x2x4x516_S32x4x2x4_d4 h_S_)

/-- The result of the compressed branch. -/
def resC (A0 : FVec Ideal S128x512 .bf16) (A1 A2 : FVec Ideal S32x512x128 .f32) (A7 : FVec Ideal S32x512 .f32) : FVec Ideal S32x32x128 .f32 :=
  shapeCast _ (Host.dotGeneral dot_S32x4x2x4x511_S32x511x2x64_S32x4x2x4x2x64_4_1_123_23_0_0 none (probC A0 A1 A7) (extractStridedSlice S32x511x2x64 ![0, 0, 0, 0] (shapeCast _ A2 shapeCasts_S32x512x128_S32x512x2x64) slices_S32x512x2x64_S32x511x2x64_0_0_0_0)) shapeCasts_S32x4x2x4x2x64_S32x32x128

/-- The weights of the window branch. -/
def probW (A0 : FVec Ideal S128x512 .bf16) (A3 : FVec Ideal S32x512x128 .f32) (A5 : FVec Ideal S128x128 .f32) (A8 : FVec Ideal S32x512 .f32) (A9 : FVec Ideal S32x128 .f32) : FVec Ideal S32x4x2x4x516 .f32 :=
  Host.divf (numW A0 A3 A5 A8 A9) (broadcastInDim S32x4x2x4x516 ![0, 1, 2, 3, 4] bcast_S32x4x2x4x1_S32x4x2x4x516_0_1_2_3_4 (select (cmpf .ogt (sumW A0 A3 A5 A8 A9) (broadcastInDim S32x4x2x4x1 ![] bcast_S_S32x4x2x4x1 (constant S_ .f32 0x00000000#32))) (sumW A0 A3 A5 A8 A9) (broadcastInDim S32x4x2x4x1 ![] bcast_S_S32x4x2x4x1 (id (constant S_ .f32 0x3F800000#32)))))

/-- The result of the window branch. -/
def resW (A0 : FVec Ideal S128x512 .bf16) (A3 A4 : FVec Ideal S32x512x128 .f32) (A5 A6 : FVec Ideal S128x128 .f32) (A8 : FVec Ideal S32x512 .f32) (A9 : FVec Ideal S32x128 .f32) : FVec Ideal S32x32x128 .f32 :=
  shapeCast _ (Host.dotGeneral dot_S32x4x2x4x516_S32x516x2x64_S32x4x2x4x2x64_4_1_123_23_0_0 none (probW A0 A3 A5 A8 A9) (concatenate S32x516x2x64 1 [⟨S32x512x2x64, (shapeCast _ A4 shapeCasts_S32x512x128_S32x512x2x64)⟩, ⟨S32x4x2x64, (shapeCast _ A6 shapeCasts_S128x128_S32x4x2x64)⟩] concatenates_S32x512x2x64_S32x4x2x64_S32x516x2x64_d1)) shapeCasts_S32x4x2x4x2x64_S32x32x128

/-- The blocks chosen. -/
def chosen (A0 : FVec Ideal S128x512 .bf16) (A1 : FVec Ideal S32x512x128 .f32) (A7 : FVec Ideal S32x512 .f32) (A10 : FVec Ideal S512x256 .bf16) : IVec S32x2x4x16 32 :=
  (Host.topK S32x2x4x16 3 (FloatOps.cmpfTotal .gt) (score A0 A1 A7 A10) sliceFits_S32x2x4x129_S32x2x4x16).2

/-- The mask of the blocks chosen. -/
def resS (A0 : FVec Ideal S128x512 .bf16) (A1 : FVec Ideal S32x512x128 .f32) (A7 : FVec Ideal S32x512 .f32) (A10 : FVec Ideal S512x256 .bf16) : FVec Ideal S32x8x256 .f32 :=
  shapeCast _ (uitofp .f32 (Host.reduce IntOp.ori (cmpi .eq (broadcastInDim S32x2x4x16x256 ![0, 1, 2, 3, 4] bcast_S32x2x4x16x1_S32x2x4x16x256_0_1_2_3_4 (broadcastInDim S32x2x4x16x1 ![0, 1, 2, 3] bcast_S32x2x4x16_S32x2x4x16x1_0_1_2_3 (chosen A0 A1 A7 A10))) (broadcastInDim S32x2x4x16x256 ![0, 1, 2, 3, 4] bcast_S1x1x1x1x256_S32x2x4x16x256_0_1_2_3_4 (broadcastInDim S1x1x1x1x256 ![4] bcast_S256_S1x1x1x1x256_4 (iotaInDim S256 32 0)))) (constantI S_ 1 0#1) reducesTo_S32x2x4x16x256_S32x2x4x256_d3 h_S_)) shapeCasts_S32x2x4x256_S32x8x256

theorem maskC_bits : ∀ (q : Fin 4) (n : Fin 511), IntOp.cmpi .sge (IntOp.subi (IntOp.addi (8192#32) (BitVec.ofNat 32 q.val))
    (IntOp.addi (IntOp.muli (BitVec.ofNat 32 n.val) 16#32) 31#32)) 0#32 = BitVec.ofBool true := by
  decide +kernel

theorem maskC_at (q : Fin 4) (n : Fin 511) : maskC (ix2 q n) = BitVec.ofBool true := by
  unfold maskC pos
  pointwise
  exact maskC_bits q n

theorem one_at : id (constant (F := Ideal) S_ .f32 0x3F800000#32) ix0 = 1 := by
  simp only [id]
  pointwise

theorem zero_at : id (constant (F := Ideal) S_ .f32 0#32) ix0 = 0 := by
  simp only [id]
  pointwise

section compressed

variable (A0 : FVec Ideal S128x512 .bf16) (A1 A2 : FVec Ideal S32x512x128 .f32) (A7 : FVec Ideal S32x512 .f32) (A10 : FVec Ideal S512x256 .bf16)
  (b : Fin 32) (r : Fin 4) (g : Fin 2) (q : Fin 4)

/-- A logit of the compressed branch. -/
def lC (n : Fin 511) : EReal :=
  (∑ x : Fin 64, A1 (ix3 b ⟨n.val, by omega⟩ ⟨g.val * 64 + x.val, by omega⟩) * A0 (ix2 ⟨b.val * 4 + q.val, by omega⟩ ⟨r.val * 128 + g.val * 64 + x.val, by omega⟩)) * sc
    + A7 (ix2 ⟨r.val * 8 + g.val * 4 + q.val, by omega⟩ ⟨n.val, by omega⟩)

theorem logC_at (n : Fin 511) : logC A0 A1 A7 (ix5 b r g q n) = lC A0 A1 A7 b r g q n := by
  unfold logC qf
  pointwise
  rw [maskC_at, sel]
  rfl

theorem numC_at (n : Fin 511) : numC A0 A1 A7 (ix5 b r g q n) = Soft.num (fun _ => true) (lC A0 A1 A7 b r g q) (top (lC A0 A1 A7 b r g q)) n := by
  unfold numC
  pointwise
  simp only [maskC_at, sel, logC_at, zero_at]
  rfl

theorem probC_at (n : Fin 511) : probC A0 A1 A7 (ix5 b r g q n) = Soft.prob (fun _ => true) (lC A0 A1 A7 b r g q) (top (lC A0 A1 A7 b r g q)) n := by
  unfold probC sumC
  pointwise
  simp only [numC_at, one_at]
  rfl

theorem resC_at (y : Fin 32) (n : Fin 128) : resC A0 A1 A2 A7 (ix3 b y n)
    = ∑ x : Fin 511, Soft.prob (fun _ => true) (lC A0 A1 A7 b ⟨y.val / 8, by omega⟩ ⟨y.val / 4 % 2, by omega⟩ ⟨y.val % 4, by omega⟩)
        (top (lC A0 A1 A7 b ⟨y.val / 8, by omega⟩ ⟨y.val / 4 % 2, by omega⟩ ⟨y.val % 4, by omega⟩)) x * A2 (ix3 b ⟨x.val, by omega⟩ n) := by
  unfold resC
  pointwise
  simp only [probC_at]

theorem own_bits : ∀ (q : Fin 4) (n : Fin 129),
   (IntOp.ori
        (IntOp.ori (IntOp.cmpi CmpIPredicate.eq (BitVec.ofNat 32 n.val) 0#32)
          (IntOp.cmpi CmpIPredicate.eq (BitVec.ofNat 32 n.val)
            (Scalar.select
              (IntOp.andi
                (IntOp.cmpi CmpIPredicate.ne (if pos (ix1 q) = 0 then (0 : BitVec 32) else if (pos (ix1 q)).msb = true then -1 else 1)
                  (if c64 ix0 = 0 then (0 : BitVec 32) else if (c64 ix0).msb = true then -1 else 1))
                (IntOp.cmpi CmpIPredicate.ne (IntOp.remsi ArithUnit.host (pos (ix1 q)) (c64 ix0)) 0#32))
              (IntOp.subi (w := 32) (quot (ix1 q)) 1#32) (quot (ix1 q)))))
        (IntOp.cmpi CmpIPredicate.eq (BitVec.ofNat 32 n.val)
          (IntOp.subi
            (Scalar.select
              (IntOp.andi
                (IntOp.cmpi CmpIPredicate.ne (if pos (ix1 q) = 0 then (0 : BitVec 32) else if (pos (ix1 q)).msb = true then -1 else 1)
                  (if c64 ix0 = 0 then (0 : BitVec 32) else if (c64 ix0).msb = true then -1 else 1))
                (IntOp.cmpi CmpIPredicate.ne (IntOp.remsi ArithUnit.host (pos (ix1 q)) (c64 ix0)) 0#32))
              (IntOp.subi (w := 32) (quot (ix1 q)) 1#32) (quot (ix1 q)))
            1#32))) = BitVec.ofBool (own n.val) := by
  decide +kernel

theorem past_bits : ∀ (q : Fin 4) (n : Fin 129), IntOp.cmpi .sgt (IntOp.muli (BitVec.ofNat 32 n.val) 64#32) (pos (ix1 q)) = BitVec.ofBool false := by
  decide +kernel

theorem score_at (n : Fin 129) : score A0 A1 A7 A10 (ix4 b g q n)
    = if own n.val then Ideal.ofBits .f32 0x49742400#32
      else ∑ x : Fin 511, (∑ r : Fin 4, Soft.prob (fun _ => true) (lC A0 A1 A7 b r g q) (top (lC A0 A1 A7 b r g q)) x) * A10 (ix2 ⟨x.val, by omega⟩ ⟨n.val, by omega⟩) := by
  unfold score blkI curI
  pointwise
  refine (congrArg (fun c => Scalar.select c _ _) (own_bits q n)).trans ?_
  simp only [past_bits q n, sel, probC_at]
  rfl

end compressed

section window

variable (A0 : FVec Ideal S128x512 .bf16) (A3 A4 : FVec Ideal S32x512x128 .f32) (A5 A6 : FVec Ideal S128x128 .f32) (A8 : FVec Ideal S32x512 .f32) (A9 : FVec Ideal S32x128 .f32)
  (b : Fin 32) (r : Fin 4) (g : Fin 2) (q : Fin 4)

/-- The mask of the window at a query and a position. -/
def mF (q : Fin 4) (n : Fin 516) : Bool := decide (q.val < n.val ∧ n.val ≤ 512 + q.val)

theorem maskW_bits : ∀ (q : Fin 4) (n : Fin 516),
    IntOp.andi (IntOp.andi
      (IntOp.cmpi .sge (IntOp.subi (IntOp.addi (8192#32) (BitVec.ofNat 32 q.val)) (IntOp.addi (7680#32) (BitVec.ofNat 32 n.val))) 0#32)
      (IntOp.cmpi .slt (IntOp.subi (IntOp.addi (8192#32) (BitVec.ofNat 32 q.val)) (IntOp.addi (7680#32) (BitVec.ofNat 32 n.val))) 512#32))
      (IntOp.cmpi .sge (IntOp.addi (7680#32) (BitVec.ofNat 32 n.val)) 0#32) = BitVec.ofBool (mF q n) := by
  decide +kernel

theorem maskW_at (q : Fin 4) (n : Fin 516) : maskW (ix2 q n) = BitVec.ofBool (mF q n) := by
  unfold maskW distW posW pos
  pointwise
  exact maskW_bits q n

/-- A logit of the window branch, before the mask. -/
def lW (n : Fin 516) : EReal :=
  (∑ x : Fin 64, (if h : n.val < 512 then A3 (ix3 b ⟨n.val, h⟩ ⟨g.val * 64 + x.val, by omega⟩)
      else A5 (ix2 ⟨b.val * 4 + (n.val - 512), by omega⟩ ⟨g.val * 64 + x.val, by omega⟩))
        * A0 (ix2 ⟨b.val * 4 + q.val, by omega⟩ ⟨r.val * 128 + g.val * 64 + x.val, by omega⟩)) * sc
    + if h : n.val < 512 then A8 (ix2 ⟨r.val * 8 + g.val * 4 + q.val, by omega⟩ ⟨n.val, h⟩)
      else A9 (ix2 ⟨r.val * 8 + g.val * 4 + q.val, by omega⟩ ⟨n.val - 512, by omega⟩)

theorem logW_at (n : Fin 516) : logW A0 A3 A5 A8 A9 (ix5 b r g q n) = cover (mF q) (lW A0 A3 A5 A8 A9 b r g q) n := by
  unfold logW qf
  pointwise
  rw [maskW_at, sel]
  rfl

theorem numW_at (n : Fin 516) : numW A0 A3 A5 A8 A9 (ix5 b r g q n)
    = Soft.num (mF q) (cover (mF q) (lW A0 A3 A5 A8 A9 b r g q)) (top (cover (mF q) (lW A0 A3 A5 A8 A9 b r g q))) n := by
  unfold numW
  pointwise
  simp only [maskW_at, sel, logW_at, zero_at]
  rfl

theorem probW_at (n : Fin 516) : probW A0 A3 A5 A8 A9 (ix5 b r g q n)
    = Soft.prob (mF q) (cover (mF q) (lW A0 A3 A5 A8 A9 b r g q)) (top (cover (mF q) (lW A0 A3 A5 A8 A9 b r g q))) n := by
  unfold probW sumW
  pointwise
  simp only [numW_at, one_at]
  rfl

/-- A value of the window branch. -/
def vW (h : Fin 128) (n : Fin 516) : EReal :=
  if e : n.val < 512 then A4 (ix3 b ⟨n.val, e⟩ h) else A6 (ix2 ⟨b.val * 4 + (n.val - 512), by omega⟩ h)

theorem resW_at (y : Fin 32) (h : Fin 128) : resW A0 A3 A4 A5 A6 A8 A9 (ix3 b y h)
    = ∑ n : Fin 516, Soft.prob (mF ⟨y.val % 4, by omega⟩)
        (cover (mF ⟨y.val % 4, by omega⟩) (lW A0 A3 A5 A8 A9 b ⟨y.val / 8, by omega⟩ ⟨y.val / 4 % 2, by omega⟩ ⟨y.val % 4, by omega⟩))
        (top (cover (mF ⟨y.val % 4, by omega⟩) (lW A0 A3 A5 A8 A9 b ⟨y.val / 8, by omega⟩ ⟨y.val / 4 % 2, by omega⟩ ⟨y.val % 4, by omega⟩))) n
        * vW A4 A6 b h n := by
  unfold resW
  pointwise
  simp only [probW_at]
  rw [Fin.sum_univ_add (a := 512) (b := 4)]
  refine congrArg₂ (· + ·) (Finset.sum_congr rfl fun x _ => ?_) (Finset.sum_congr rfl fun x _ => ?_)
  · refine congrArg₂ (· * ·) rfl ?_
    simp [vW]
  · refine congrArg₂ (· * ·) rfl ?_
    simp [vW]

end window

section select

variable (A0 : FVec Ideal S128x512 .bf16) (A1 : FVec Ideal S32x512x128 .f32) (A7 : FVec Ideal S32x512 .f32) (A10 : FVec Ideal S512x256 .bf16)
  (b : Fin 32)

theorem chosen_at (g : Fin 2) (q : Fin 4) (s : Fin 16) : chosen A0 A1 A7 A10 (ix4 b g q s)
    = BitVec.ofNat 32 (sortedFrom (fun k k' : Fin 129 => FloatOps.cmpfTotal .gt (score A0 A1 A7 A10 (ix4 b g q k)) (score A0 A1 A7 A10 (ix4 b g q k')) == 1#1)
        ⟨s.val, by omega⟩).val := by
  unfold chosen
  generalize score A0 A1 A7 A10 = S
  have e' : (Host.topK S32x2x4x16 3 (FloatOps.cmpfTotal .gt) S sliceFits_S32x2x4x129_S32x2x4x16).2 (ix4 b g q s)
    = (Host.sort2 S32x2x4x129 3 (fun l r => FloatOps.cmpfTotal .gt l.1 r.1) S (iotaInDim S32x2x4x129 32 3)).2 (ix4 b g q ⟨s.val, by omega⟩) := by
    unfold Host.topK
    refine congrArg (Host.sort2 S32x2x4x129 3 (fun l r => FloatOps.cmpfTotal .gt l.1 r.1) S (iotaInDim S32x2x4x129 32 3)).2 (funext fun a => ?_)
    fin_cases a <;> exact Fin.ext (Nat.zero_add _)
  have e : ∀ k : Fin 129, Shape.Idx.along (s := S32x2x4x129) (ix4 b g q ⟨s.val, by omega⟩) 3 k = ix4 b g q k := fun k => by
    funext a
    fin_cases a <;> rfl
  rw [e']
  unfold Host.sort2
  rw [dif_pos (by decide)]
  refine (congrArg (iotaInDim S32x2x4x129 32 3) (e _)).trans ?_
  pointwise
  refine congrArg (fun R => BitVec.ofNat 32 (sortedFrom R (⟨s.val, by omega⟩ : Fin 129)).val) (funext fun k => funext fun k' => ?_)
  rw [e, e]

theorem eq_bit (a b : ℕ) (ha : a < 256) (hb : b < 256) : IntOp.cmpi .eq (BitVec.ofNat 32 a) (BitVec.ofNat 32 b) = 1#1 ↔ a = b := by
  have h : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  rw [← h]
  by_cases e : BitVec.ofNat 32 a = BitVec.ofNat 32 b
  · simp [IntOp.cmpi, e]
  · have z : (BitVec.ofNat 32 a == BitVec.ofNat 32 b) = false := beq_eq_false_iff_ne.mpr e
    exact ⟨fun h' => absurd (show BitVec.ofBool false = 1#1 from z ▸ h') (by decide), fun h' => absurd h' e⟩

theorem resS_at (y : Fin 8) (n : Fin 256) : resS A0 A1 A7 A10 (ix3 b y n)
    = if h : n.val < 129 then (if SelTop.rank (fun m : Fin 129 => score A0 A1 A7 A10 (ix4 b ⟨y.val / 4, by omega⟩ ⟨y.val % 4, by omega⟩ m)) ⟨n.val, h⟩ < 16 then 1 else 0) else 0 := by
  unfold resS
  pointwise
  simp only [chosen_at]
  generalize hx : (fun m : Fin 129 => score A0 A1 A7 A10 (ix4 b ⟨y.val / 4, by omega⟩ ⟨y.val % 4, by omega⟩ m)) = x
  have hx' : ∀ m : Fin 129, score A0 A1 A7 A10 (ix4 b ⟨y.val / 4, by omega⟩ ⟨y.val % 4, by omega⟩ m) = x m := fun m => congrFun hx m
  simp only [hx']
  have hR : ∀ a c : Fin 129, (FloatOps.cmpfTotal (F := Ideal) (φ := .f32) .gt (x a) (x c) == 1#1) = true ↔ x c < x a := fun a c => by
    have e : FloatOps.cmpfTotal (F := Ideal) (φ := .f32) .gt (x a) (x c) = BitVec.ofBool (decide (x c < x a)) := rfl
    rw [e]
    by_cases h : x c < x a <;> simp [h]
  have hf := Idealize.ShloMosaic.Routing.fold_ori (Finset.univ : Finset (Fin 16)) fun s => IntOp.cmpi .eq (BitVec.ofNat 32
    (sortedFrom (fun a c : Fin 129 => FloatOps.cmpfTotal (F := Ideal) (φ := .f32) .gt (x a) (x c) == 1#1) ⟨s.val, by omega⟩).val) (BitVec.ofNat 32 n.val)
  have hb : ∀ z : BitVec 1, (z = 1#1 → FloatOps.uitofp (F := Ideal) FTy.f32 z = (1 : EReal)) ∧ (¬ z = 1#1 → FloatOps.uitofp (F := Ideal) FTy.f32 z = (0 : EReal)) := fun z => by
    rcases BitVec.eq_zero_or_eq_one z with rfl | rfl
    · exact ⟨fun h => absurd h (by decide), fun _ => by show (((0#1).toNat : ℝ) : EReal) = 0; simp⟩
    · exact ⟨fun _ => by show (((1#1).toNat : ℝ) : EReal) = 1; simp, fun h => absurd rfl h⟩
  by_cases h : n.val < 129
  · rw [dif_pos h]
    have hm := SelTop.mem_top x (m := 16) (by decide) _ hR ⟨n.val, h⟩
    by_cases hr : SelTop.rank x ⟨n.val, h⟩ < 16
    · rw [if_pos hr]
      refine (hb _).1 (hf.mpr ?_)
      obtain ⟨s, hs⟩ := hm.mpr hr
      exact ⟨s, Finset.mem_univ s, (eq_bit _ _ (by omega) n.isLt).mpr (congrArg Fin.val hs)⟩
    · rw [if_neg hr]
      refine (hb _).2 fun hz => hr (hm.mp ?_)
      obtain ⟨s, -, hs⟩ := hf.mp hz
      exact ⟨s, Fin.ext ((eq_bit _ _ (by omega) n.isLt).mp hs)⟩
  · rw [dif_neg h]
    refine (hb _).2 fun hz => ?_
    obtain ⟨s, -, hs⟩ := hf.mp hz
    have := (eq_bit _ _ (by omega) n.isLt).mp hs
    omega

end select

end Cert.SelRef

end
-- ==== Proof.SelRead.lean ====
/-
  What a grid step of the attention reads: every block and every load from it, over the arguments. A step takes one
  sequence; its query rows carry zeros in the lanes of the other key head, and its new keys and values are padded.
-/
module

public import proofs.«01_k».proof.Proof.SelPay
public import proofs.«01_k».proof.Proof.SelRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SelRead

open Cert.KernelIdeal Cert.KernelIdeal.Gen

variable (m : (ℓ : Loc nD τ sig) → Buf (Elt Ideal) ℓ)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![0, 0] ∧ win0_8.index t = ![0, 0] ∧ win0_9.index t = ![0, 0] ∧ win0_10.index t = ![0, 0]
    ∧ win0_11.index t = ![t.val, 0, 0] ∧ win0_12.index t = ![t.val, 0, 0] ∧ win0_13.index t = ![t.val, 0, 0] :=
  (by decide +kernel : ∀ t : Fin grid0.N, _)

abbrev ar0 (c : Dev nD) : FVec Ideal S128x512 .bf16 := m ((c.tc : Thread nD τ).loc main_arg0)
abbrev ar1 (c : Dev nD) : FVec Ideal S32x512x128 .f32 := m ((c.tc : Thread nD τ).loc main_arg1)
abbrev ar2 (c : Dev nD) : FVec Ideal S32x512x128 .f32 := m ((c.tc : Thread nD τ).loc main_arg2)
abbrev ar3 (c : Dev nD) : FVec Ideal S32x512x128 .f32 := m ((c.tc : Thread nD τ).loc main_arg3)
abbrev ar4 (c : Dev nD) : FVec Ideal S32x512x128 .f32 := m ((c.tc : Thread nD τ).loc main_arg4)
abbrev ar5 (c : Dev nD) : FVec Ideal S128x128 .f32 := m ((c.tc : Thread nD τ).loc main_arg5)
abbrev ar6 (c : Dev nD) : FVec Ideal S128x128 .f32 := m ((c.tc : Thread nD τ).loc main_arg6)
abbrev ar7 (c : Dev nD) : FVec Ideal S32x512 .f32 := m ((c.tc : Thread nD τ).loc main_arg7)
abbrev ar8 (c : Dev nD) : FVec Ideal S32x512 .f32 := m ((c.tc : Thread nD τ).loc main_arg8)
abbrev ar9 (c : Dev nD) : FVec Ideal S32x128 .f32 := m ((c.tc : Thread nD τ).loc main_arg9)
abbrev ar10 (c : Dev nD) : FVec Ideal S512x256 .bf16 := m ((c.tc : Thread nD τ).loc main_arg10)

/-- The sequence a grid step takes. -/
abbrev seq (t : Fin cfg0.N) : Fin 32 := ⟨t.val, by have h : t.val < 32 := t.isLt; omega⟩

section
variable (c : Dev nD) (t : Fin cfg0.N)

theorem eye_at (g h : Fin 2) : (FloatOps.uitofp (F := Ideal) FTy.bf16 (IntOp.cmpi .eq (IntOp.addi (BitVec.ofNat 32 g.val) 0#32) (BitVec.ofNat 32 h.val)) : EReal)
    = if h.val = g.val then 1 else 0 := by
  fin_cases g <;> fin_cases h
  · show (((1#1).toNat : ℝ) : EReal) = 1; simp
  · show (((0#1).toNat : ℝ) : EReal) = 0; simp
  · show (((0#1).toNat : ℝ) : EReal) = 0; simp
  · show (((1#1).toNat : ℝ) : EReal) = 1; simp

theorem col (y : Fin 32) (n : Fin 128) : (⟨y.val / 8 * 128 + y.val / 4 % 2 * 64 + n.val % 64, by omega⟩ : Fin 512) = ⟨y.val / 4 * 64 + n.val % 64, by omega⟩ :=
  Fin.ext (by simp only []; omega)

theorem mul_ite_zero (p : Prop) [Decidable p] (a : EReal) : a * (if p then 1 else 0) = if p then a else 0 := by
  split
  · exact mul_one _
  · exact mul_zero _

theorem v13_at (b : Fin 32) (y : Fin 32) (n : Fin 128) : (show FVec Ideal S32x32x128 .bf16 from V m c main_v13) (ix3 b y n)
    = if n.val / 64 = y.val / 4 % 2 then ar0 m c (ix2 ⟨b.val * 4 + y.val % 4, by omega⟩ ⟨y.val / 4 * 64 + n.val % 64, by omega⟩) else 0 := by
  simp only [V, hostOps0, hostOps0_1, hostOps0_2, hostOps0_3, List.flatten_cons, List.flatten_nil, List.append_nil, List.cons_append, List.nil_append]
  entry_read
  pointwise
  refine (congrArg₂ (fun a b : EReal => a * b) (congrArg (fun k : Fin 512 => ar0 m c (ix2 (⟨b.val * 4 + y.val % 4, by omega⟩ : Fin 128) k)) (col y n))
    (eye_at ⟨y.val / 4 % 2, by omega⟩ ⟨n.val / 64, by omega⟩)).trans ?_
  exact mul_ite_zero _ _

theorem v15_at (b : Fin 32) (y : Fin 4) (n : Fin 128) : (show FVec Ideal S32x128x128 .f32 from V m c main_v15) (ix3 b ⟨y.val, by omega⟩ n)
    = ar5 m c (ix2 ⟨b.val * 4 + y.val, by omega⟩ n) := by
  simp only [V, hostOps0, hostOps0_1, hostOps0_2, hostOps0_3, List.flatten_cons, List.flatten_nil, List.append_nil, List.cons_append, List.nil_append]
  entry_read
  show pad S32x128x128 ![0, 0, 0] ![0, 124, 0] ![0, 0, 0] (shapeCast S32x4x128 (ar5 m c) shapeCasts_S128x128_S32x4x128)
    (sitofp (F := Ideal) .f32 (constantI S_ 32 0#32)) pads_S32x4x128_S32x128x128_000_01240_000 h_S_ (ix3 b ⟨y.val, by omega⟩ n) = _
  pointwise

theorem v17_at (b : Fin 32) (y : Fin 4) (n : Fin 128) : (show FVec Ideal S32x128x128 .f32 from V m c main_v17) (ix3 b ⟨y.val, by omega⟩ n)
    = ar6 m c (ix2 ⟨b.val * 4 + y.val, by omega⟩ n) := by
  simp only [V, hostOps0, hostOps0_1, hostOps0_2, hostOps0_3, List.flatten_cons, List.flatten_nil, List.append_nil, List.cons_append, List.nil_append]
  entry_read
  show pad S32x128x128 ![0, 0, 0] ![0, 124, 0] ![0, 0, 0] (shapeCast S32x4x128 (ar6 m c) shapeCasts_S128x128_S32x4x128)
    (sitofp (F := Ideal) .f32 (constantI S_ 32 0#32)) pads_S32x4x128_S32x128x128_000_01240_000 h_S_ (ix3 b ⟨y.val, by omega⟩ n) = _
  pointwise

theorem b0 (y : Fin 32) (n : Fin 128) : (show FVec Ideal S1x32x128 .bf16 from iblk m c 0 t) (ix3 0 y n)
    = (show FVec Ideal S32x32x128 .bf16 from V m c main_v13) (ix3 (seq t) y n) := by
  blk_ext [iblk, idx t]

theorem b1 (y : Fin 512) (n : Fin 128) : (show FVec Ideal S1x512x128 .f32 from iblk m c 1 t) (ix3 0 y n) = ar1 m c (ix3 (seq t) y n) := by
  blk_ext [iblk, V, idx t]

theorem b2 (y : Fin 512) (n : Fin 128) : (show FVec Ideal S1x512x128 .f32 from iblk m c 2 t) (ix3 0 y n) = ar2 m c (ix3 (seq t) y n) := by
  blk_ext [iblk, V, idx t]

theorem b3 (y : Fin 512) (n : Fin 128) : (show FVec Ideal S1x512x128 .f32 from iblk m c 3 t) (ix3 0 y n) = ar3 m c (ix3 (seq t) y n) := by
  blk_ext [iblk, V, idx t]

theorem b4 (y : Fin 512) (n : Fin 128) : (show FVec Ideal S1x512x128 .f32 from iblk m c 4 t) (ix3 0 y n) = ar4 m c (ix3 (seq t) y n) := by
  blk_ext [iblk, V, idx t]

theorem b5 (y : Fin 128) (n : Fin 128) : (show FVec Ideal S1x128x128 .f32 from iblk m c 5 t) (ix3 0 y n)
    = (show FVec Ideal S32x128x128 .f32 from V m c main_v15) (ix3 (seq t) y n) := by
  blk_ext [iblk, idx t]

theorem b6 (y : Fin 128) (n : Fin 128) : (show FVec Ideal S1x128x128 .f32 from iblk m c 6 t) (ix3 0 y n)
    = (show FVec Ideal S32x128x128 .f32 from V m c main_v17) (ix3 (seq t) y n) := by
  blk_ext [iblk, idx t]

theorem b7 (y : Fin 32) (n : Fin 512) : (show FVec Ideal S32x512 .f32 from iblk m c 7 t) (ix2 y n) = ar7 m c (ix2 y n) := by
  blk_ext [iblk, V, idx t]

theorem b8 (y : Fin 32) (n : Fin 512) : (show FVec Ideal S32x512 .f32 from iblk m c 8 t) (ix2 y n) = ar8 m c (ix2 y n) := by
  blk_ext [iblk, V, idx t]

theorem b9 (y : Fin 32) (n : Fin 128) : (show FVec Ideal S32x128 .f32 from iblk m c 9 t) (ix2 y n) = ar9 m c (ix2 y n) := by
  blk_ext [iblk, V, idx t]

theorem b10 (y : Fin 512) (n : Fin 256) : (show FVec Ideal S512x256 .bf16 from iblk m c 10 t) (ix2 y n) = ar10 m c (ix2 y n) := by
  blk_ext [iblk, V, idx t]

theorem emb11 (y : Fin 32) (n : Fin 128) : ((View.whole main_v18_0).slice (win0_11.rect t)).emb (ix3 0 y n) = ix3 (seq t) y n := by
  blk_ext [idx t]

theorem emb12 (y : Fin 32) (n : Fin 128) : ((View.whole main_v18_1).slice (win0_12.rect t)).emb (ix3 0 y n) = ix3 (seq t) y n := by
  blk_ext [idx t]

theorem emb13 (y : Fin 8) (n : Fin 256) : ((View.whole main_v18_2).slice (win0_13.rect t)).emb (ix3 0 y n) = ix3 (seq t) y n := by
  blk_ext [idx t]

end

end Cert.SelRead

end
-- ==== Proof.SelRank.lean ====
/-
  The kernel's rank of a block: for each of the blocks in turn one is added where that block's score comes before. Its
  pieces are one chain of equal steps, and the chain at an index is a sum over the blocks.
-/
module

public import proofs.«01_k».proof.Proof.Gen.KernelIdeal.Frame
public import proofs.«01_k».proof.Proof.SelTop
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.SelRank

open Cert.KernelIdeal Cert.KernelIdeal.Gen

theorem slices (k : ℕ) (h : k < 129) : S8x256.Slices ![0, k] S8x1 := by
  refine ⟨rfl, fun a => ?_⟩
  fin_cases a
  · exact (by decide : 0 + 8 ≤ 8)
  · exact (by omega : k + 1 ≤ 256)

/-- One step: one is added where block `k` comes before. -/
def step (I : IVec S8x256 32) (S : FVec Ideal S8x256 .f32) (k : ℕ) (h : k < 129) (acc : FVec Ideal S8x256 .f32) : FVec Ideal S8x256 .f32 :=
  addf acc (select (ori (cmpf .ogt (broadcastTo S8x256 (extractStridedSlice S8x1 ![0, k] S (slices k h)) broadcasts_S8x1_S8x256) S)
    (andi (cmpf .oeq (broadcastTo S8x256 (extractStridedSlice S8x1 ![0, k] S (slices k h)) broadcasts_S8x1_S8x256) S)
      (cmpi .sgt I (broadcast S8x256 (BitVec.ofNat 32 k)))))
    (broadcast S8x256 (Scalar.ofBits (F := Ideal) .f32 0x3F800000#32)) (broadcast S8x256 (Scalar.ofBits (F := Ideal) .f32 0x00000000#32)))

/-- The first `n` steps. -/
def chain (I : IVec S8x256 32) (S : FVec Ideal S8x256 .f32) : (n : ℕ) → n ≤ 129 → FVec Ideal S8x256 .f32
  | 0, _ => broadcast S8x256 (Scalar.ofBits (F := Ideal) .f32 0x00000000#32)
  | n + 1, h => step I S n h (chain I S n (Nat.le_of_succ_le h))

/-- The blocks of rank below sixteen. -/
def cut (I : IVec S8x256 32) (R : FVec Ideal S8x256 .f32) : FVec Ideal S8x256 .f32 :=
  select (andi (cmpf .olt R (broadcast S8x256 (Scalar.ofBits (F := Ideal) .f32 0x41800000#32))) (cmpi .slt I (broadcast S8x256 129#32)))
    (broadcast S8x256 (Scalar.ofBits (F := Ideal) .f32 0x3F800000#32)) (broadcast S8x256 (Scalar.ofBits (F := Ideal) .f32 0x00000000#32))

theorem seg15 (I : IVec S8x256 32) (V : FVec Ideal S8x256 .f32) (P : IVec S8x256 32) (A : IVec S8x256 1) (B : IVec S8x256 32) :
    k0_pay15 (F := Ideal) V I P A B = step I (k0_pay14 (F := Ideal) V I P A B) 1 (by decide) (step I (k0_pay14 (F := Ideal) V I P A B) 0 (by decide)
      (broadcast S8x256 (Scalar.ofBits (F := Ideal) .f32 0x00000000#32))) := by
  unfold k0_pay15
  generalize k0_pay14 (F := Ideal) V I P A B = S
  rfl

theorem seg20 (I : IVec S8x256 32) (V : FVec Ideal S8x256 .f32) (P : IVec S8x256 32) (A : IVec S8x256 1) (B : IVec S8x256 32) (acc : FVec Ideal S8x256 .f32) :
    k0_pay20 (F := Ideal) I (k0_pay14 (F := Ideal) V I P A B) acc (k0_pay17 V I P A B) (k0_pay18 V I P A B) (k0_pay19 I)
      = step I (k0_pay14 (F := Ideal) V I P A B) 5 (by decide) (step I (k0_pay14 (F := Ideal) V I P A B) 4 (by decide) (step I (k0_pay14 (F := Ideal) V I P A B) 3 (by decide) (step I (k0_pay14 (F := Ideal) V I P A B) 2 (by decide) acc))) := by
  unfold k0_pay20 k0_pay17 k0_pay18 k0_pay16
  generalize k0_pay14 (F := Ideal) V I P A B = S
  rfl

theorem seg24 (I : IVec S8x256 32) (S : FVec Ideal S8x256 .f32) (acc : FVec Ideal S8x256 .f32) :
    k0_pay24 (F := Ideal) I S acc (k0_pay22 S) (k0_pay23 S)
      = step I S 9 (by decide) (step I S 8 (by decide) (step I S 7 (by decide) (step I S 6 (by decide) acc))) := rfl

theorem seg25 (I : IVec S8x256 32) (S : FVec Ideal S8x256 .f32) (acc : FVec Ideal S8x256 .f32) :
    k0_pay25 (F := Ideal) I S acc
      = step I S 12 (by decide) (step I S 11 (by decide) (step I S 10 (by decide) acc)) := rfl

theorem seg27 (I : IVec S8x256 32) (S : FVec Ideal S8x256 .f32) (acc : FVec Ideal S8x256 .f32) :
    k0_pay27 (F := Ideal) I S acc (k0_pay26 I S) (Scalar.ofBits .f32 0x3F800000#32) (Scalar.ofBits .f32 0x00000000#32)
      = step I S 16 (by decide) (step I S 15 (by decide) (step I S 14 (by decide) (step I S 13 (by decide) acc))) := rfl

theorem seg32 (I : IVec S8x256 32) (S : FVec Ideal S8x256 .f32) (acc : FVec Ideal S8x256 .f32) :
    k0_pay32 (F := Ideal) I S acc (k0_pay29 S) (k0_pay30 S) (k0_pay31 I)
      = step I S 20 (by decide) (step I S 19 (by decide) (step I S 18 (by decide) (step I S 17 (by decide) acc))) := rfl

theorem seg36 (I : IVec S8x256 32) (S : FVec Ideal S8x256 .f32) (acc : FVec Ideal S8x256 .f32) :
    k0_pay36 (F := Ideal) I S acc (k0_pay34 S) (k0_pay35 S)
      = step I S 24 (by decide) (step I S 23 (by decide) (step I S 22 (by decide) (step I S 21 (by decide) acc))) := rfl

theorem seg37 (I : IVec S8x256 32) (S : FVec Ideal S8x256 .f32) (acc : FVec Ideal S8x256 .f32) :
    k0_pay37 (F := Ideal) I S acc
      = step I S 27 (by decide) (step I S 26 (by decide) (step I S 25 (by decide) acc)) := rfl

theorem seg39 (I : IVec S8x256 32) (S : FVec Ideal S8x256 .f32) (acc : FVec Ideal S8x256 .f32) :
    k0_pay39 (F := Ideal) I S acc (k0_pay38 I S) (Scalar.ofBits .f32 0x3F800000#32) (Scalar.ofBits .f32 0x00000000#32)
      = step I S 31 (by decide) (step I S 30 (by decide) (step I S 29 (by decide) (step I S 28 (by decide) acc))) := rfl

theorem seg44 (I : IVec S8x256 32) (S : FVec Ideal S8x256 .f32) (acc : FVec Ideal S8x256 .f32) :
    k0_pay44 (F := Ideal) I S acc (k0_pay41 S) (k0_pay42 S) (k0_pay43 I)
      = step I S 35 (by decide) (step I S 34 (by decide) (step I S 33 (by decide) (step I S 32 (by decide) acc))) := rfl

theorem seg48 (I : IVec S8x256 32) (S : FVec Ideal S8x256 .f32) (acc : FVec Ideal S8x256 .f32) :
    k0_pay48 (F := Ideal) I S acc (k0_pay46 S) (k0_pay47 S)
      = step I S 39 (by decide) (step I S 38 (by decide) (step I S 37 (by decide) (step I S 36 (by decide) acc))) := rfl

theorem seg49 (I : IVec S8x256 32) (S : FVec Ideal S8x256 .f32) (acc : FVec Ideal S8x256 .f32) :
    k0_pay49 (F := Ideal) I S acc
      = step I S 42 (by decide) (step I S 41 (by decide) (step I S 40 (by decide) acc)) := rfl

theorem seg51 (I : IVec S8x256 32) (S : FVec Ideal S8x256 .f32) (acc : FVec Ideal S8x256 .f32) :
    k0_pay51 (F := Ideal) I S acc (k0_pay50 I S) (Scalar.ofBits .f32 0x3F800000#32) (Scalar.ofBits .f32 0x00000000#32)
      = step I S 46 (by decide) (step I S 45 (by decide) (step I S 44 (by decide) (step I S 43 (by decide) acc))) := rfl

theorem seg56 (I : IVec S8x256 32) (S : FVec Ideal S8x256 .f32) (acc : FVec Ideal S8x256 .f32) :
    k0_pay56 (F := Ideal) I S acc (k0_pay53 S) (k0_pay54 S) (k0_pay55 I)
      = step I S 50 (by decide) (step I S 49 (by decide) (step I S 48 (by decide) (step I S 47 (by decide) acc))) := rfl

theorem seg60 (I : IVec S8x256 32) (S : FVec Ideal S8x256 .f32) (acc : FVec Ideal S8x256 .f32) :
    k0_pay60 (F := Ideal) I S acc (k0_pay58 S) (k0_pay59 S)
      = step I S 54 (by decide) (step I S 53 (by decide) (step I S 52 (by decide) (step I S 51 (by decide) acc))) := rfl

theorem seg61 (I : IVec S8x256 32) (S : FVec Ideal S8x256 .f32) (acc : FVec Ideal S8x256 .f32) :
    k0_pay61 (F := Ideal) I S acc
      = step I S 57 (by decide) (step I S 56 (by decide) (step I S 55 (by decide) acc)) := rfl

theorem seg63 (I : IVec S8x256 32) (S : FVec Ideal S8x256 .f32) (acc : FVec Ideal S8x256 .f32) :
    k0_pay63 (F := Ideal) I S acc (k0_pay62 I S) (Scalar.ofBits .f32 0x3F800000#32) (Scalar.ofBits .f32 0x00000000#32)
      = step I S 61 (by decide) (step I S 60 (by decide) (step I S 59 (by decide) (step I S 58 (by decide) acc))) := rfl

theorem seg68 (I : IVec S8x256 32) (S : FVec Ideal S8x256 .f32) (acc : FVec Ideal S8x256 .f32) :
    k0_pay68 (F := Ideal) I S acc (k0_pay65 S) (k0_pay66 S) (k0_pay67 I)
      = step I S 65 (by decide) (step I S 64 (by decide) (step I S 63 (by decide) (step I S 62 (by decide) acc))) := rfl

theorem seg72 (I : IVec S8x256 32) (S : FVec Ideal S8x256 .f32) (acc : FVec Ideal S8x256 .f32) :
    k0_pay72 (F := Ideal) I S acc (k0_pay70 S) (k0_pay71 S)
      = step I S 69 (by decide) (step I S 68 (by decide) (step I S 67 (by decide) (step I S 66 (by decide) acc))) := rfl

theorem seg73 (I : IVec S8x256 32) (S : FVec Ideal S8x256 .f32) (acc : FVec Ideal S8x256 .f32) :
    k0_pay73 (F := Ideal) I S acc
      = step I S 72 (by decide) (step I S 71 (by decide) (step I S 70 (by decide) acc)) := rfl

theorem seg75 (I : IVec S8x256 32) (S : FVec Ideal S8x256 .f32) (acc : FVec Ideal S8x256 .f32) :
    k0_pay75 (F := Ideal) I S acc (k0_pay74 I S) (Scalar.ofBits .f32 0x3F800000#32) (Scalar.ofBits .f32 0x00000000#32)
      = step I S 76 (by decide) (step I S 75 (by decide) (step I S 74 (by decide) (step I S 73 (by decide) acc))) := rfl

theorem seg80 (I : IVec S8x256 32) (S : FVec Ideal S8x256 .f32) (acc : FVec Ideal S8x256 .f32) :
    k0_pay80 (F := Ideal) I S acc (k0_pay77 S) (k0_pay78 S) (k0_pay79 I)
      = step I S 80 (by decide) (step I S 79 (by decide) (step I S 78 (by decide) (step I S 77 (by decide) acc))) := rfl

theorem seg84 (I : IVec S8x256 32) (S : FVec Ideal S8x256 .f32) (acc : FVec Ideal S8x256 .f32) :
    k0_pay84 (F := Ideal) I S acc (k0_pay82 S) (k0_pay83 S)
      = step I S 84 (by decide) (step I S 83 (by decide) (step I S 82 (by decide) (step I S 81 (by decide) acc))) := rfl

theorem seg85 (I : IVec S8x256 32) (S : FVec Ideal S8x256 .f32) (acc : FVec Ideal S8x256 .f32) :
    k0_pay85 (F := Ideal) I S acc
      = step I S 87 (by decide) (step I S 86 (by decide) (step I S 85 (by decide) acc)) := rfl

theorem seg87 (I : IVec S8x256 32) (S : FVec Ideal S8x256 .f32) (acc : FVec Ideal S8x256 .f32) :
    k0_pay87 (F := Ideal) I S acc (k0_pay86 I S) (Scalar.ofBits .f32 0x3F800000#32) (Scalar.ofBits .f32 0x00000000#32)
      = step I S 91 (by decide) (step I S 90 (by decide) (step I S 89 (by decide) (step I S 88 (by decide) acc))) := rfl

theorem seg92 (I : IVec S8x256 32) (S : FVec Ideal S8x256 .f32) (acc : FVec Ideal S8x256 .f32) :
    k0_pay92 (F := Ideal) I S acc (k0_pay89 S) (k0_pay90 S) (k0_pay91 I)
      = step I S 95 (by decide) (step I S 94 (by decide) (step I S 93 (by decide) (step I S 92 (by decide) acc))) := rfl

theorem seg96 (I : IVec S8x256 32) (S : FVec Ideal S8x256 .f32) (acc : FVec Ideal S8x256 .f32) :
    k0_pay96 (F := Ideal) I S acc (k0_pay94 S) (k0_pay95 S)
      = step I S 99 (by decide) (step I S 98 (by decide) (step I S 97 (by decide) (step I S 96 (by decide) acc))) := rfl

theorem seg97 (I : IVec S8x256 32) (S : FVec Ideal S8x256 .f32) (acc : FVec Ideal S8x256 .f32) :
    k0_pay97 (F := Ideal) I S acc
      = step I S 102 (by decide) (step I S 101 (by decide) (step I S 100 (by decide) acc)) := rfl

theorem seg99 (I : IVec S8x256 32) (S : FVec Ideal S8x256 .f32) (acc : FVec Ideal S8x256 .f32) :
    k0_pay99 (F := Ideal) I S acc (k0_pay98 I S) (Scalar.ofBits .f32 0x3F800000#32) (Scalar.ofBits .f32 0x00000000#32)
      = step I S 106 (by decide) (step I S 105 (by decide) (step I S 104 (by decide) (step I S 103 (by decide) acc))) := rfl

theorem seg104 (I : IVec S8x256 32) (S : FVec Ideal S8x256 .f32) (acc : FVec Ideal S8x256 .f32) :
    k0_pay104 (F := Ideal) I S acc (k0_pay101 S) (k0_pay102 S) (k0_pay103 I)
      = step I S 110 (by decide) (step I S 109 (by decide) (step I S 108 (by decide) (step I S 107 (by decide) acc))) := rfl

theorem seg108 (I : IVec S8x256 32) (S : FVec Ideal S8x256 .f32) (acc : FVec Ideal S8x256 .f32) :
    k0_pay108 (F := Ideal) I S acc (k0_pay106 S) (k0_pay107 S)
      = step I S 114 (by decide) (step I S 113 (by decide) (step I S 112 (by decide) (step I S 111 (by decide) acc))) := rfl

theorem seg109 (I : IVec S8x256 32) (S : FVec Ideal S8x256 .f32) (acc : FVec Ideal S8x256 .f32) :
    k0_pay109 (F := Ideal) I S acc
      = step I S 117 (by decide) (step I S 116 (by decide) (step I S 115 (by decide) acc)) := rfl

theorem seg111 (I : IVec S8x256 32) (S : FVec Ideal S8x256 .f32) (acc : FVec Ideal S8x256 .f32) :
    k0_pay111 (F := Ideal) I S acc (k0_pay110 I S) (Scalar.ofBits .f32 0x3F800000#32) (Scalar.ofBits .f32 0x00000000#32)
      = step I S 121 (by decide) (step I S 120 (by decide) (step I S 119 (by decide) (step I S 118 (by decide) acc))) := rfl

theorem seg116 (I : IVec S8x256 32) (S : FVec Ideal S8x256 .f32) (acc : FVec Ideal S8x256 .f32) :
    k0_pay116 (F := Ideal) I S acc (k0_pay113 S) (k0_pay114 S) (k0_pay115 I)
      = step I S 125 (by decide) (step I S 124 (by decide) (step I S 123 (by decide) (step I S 122 (by decide) acc))) := rfl

theorem seg120 (I : IVec S8x256 32) (S : FVec Ideal S8x256 .f32) (acc : FVec Ideal S8x256 .f32) :
    k0_pay120 (F := Ideal) I S acc (k0_pay118 S) (k0_pay119 S)
      = cut I (step I S 128 (by decide) (step I S 127 (by decide) (step I S 126 (by decide) acc))) := rfl

/-- All pieces together. -/
theorem tower (I : IVec S8x256 32) (V : FVec Ideal S8x256 .f32) (P : IVec S8x256 32) (A : IVec S8x256 1) (B : IVec S8x256 32) (S : FVec Ideal S8x256 .f32)
    (hS : S = k0_pay14 (F := Ideal) V I P A B) :
    k0_pay120 (F := Ideal) I S (k0_pay116 I S (k0_pay111 I S (k0_pay109 I S (k0_pay108 I S (k0_pay104 I S (k0_pay99 I S (k0_pay97 I S (k0_pay96 I S (k0_pay92 I S (k0_pay87 I S (k0_pay85 I S (k0_pay84 I S (k0_pay80 I S (k0_pay75 I S (k0_pay73 I S (k0_pay72 I S (k0_pay68 I S (k0_pay63 I S (k0_pay61 I S (k0_pay60 I S (k0_pay56 I S (k0_pay51 I S (k0_pay49 I S (k0_pay48 I S (k0_pay44 I S (k0_pay39 I S (k0_pay37 I S (k0_pay36 I S (k0_pay32 I S (k0_pay27 I S (k0_pay25 I S (k0_pay24 I S (k0_pay20 I S (k0_pay15 V I P A B) (k0_pay17 V I P A B) (k0_pay18 V I P A B) (k0_pay19 I)) (k0_pay22 S) (k0_pay23 S))) (k0_pay26 I S) (Scalar.ofBits .f32 0x3F800000#32) (Scalar.ofBits .f32 0x00000000#32)) (k0_pay29 S) (k0_pay30 S) (k0_pay31 I)) (k0_pay34 S) (k0_pay35 S))) (k0_pay38 I S) (Scalar.ofBits .f32 0x3F800000#32) (Scalar.ofBits .f32 0x00000000#32)) (k0_pay41 S) (k0_pay42 S) (k0_pay43 I)) (k0_pay46 S) (k0_pay47 S))) (k0_pay50 I S) (Scalar.ofBits .f32 0x3F800000#32) (Scalar.ofBits .f32 0x00000000#32)) (k0_pay53 S) (k0_pay54 S) (k0_pay55 I)) (k0_pay58 S) (k0_pay59 S))) (k0_pay62 I S) (Scalar.ofBits .f32 0x3F800000#32) (Scalar.ofBits .f32 0x00000000#32)) (k0_pay65 S) (k0_pay66 S) (k0_pay67 I)) (k0_pay70 S) (k0_pay71 S))) (k0_pay74 I S) (Scalar.ofBits .f32 0x3F800000#32) (Scalar.ofBits .f32 0x00000000#32)) (k0_pay77 S) (k0_pay78 S) (k0_pay79 I)) (k0_pay82 S) (k0_pay83 S))) (k0_pay86 I S) (Scalar.ofBits .f32 0x3F800000#32) (Scalar.ofBits .f32 0x00000000#32)) (k0_pay89 S) (k0_pay90 S) (k0_pay91 I)) (k0_pay94 S) (k0_pay95 S))) (k0_pay98 I S) (Scalar.ofBits .f32 0x3F800000#32) (Scalar.ofBits .f32 0x00000000#32)) (k0_pay101 S) (k0_pay102 S) (k0_pay103 I)) (k0_pay106 S) (k0_pay107 S))) (k0_pay110 I S) (Scalar.ofBits .f32 0x3F800000#32) (Scalar.ofBits .f32 0x00000000#32)) (k0_pay113 S) (k0_pay114 S) (k0_pay115 I)) (k0_pay118 S) (k0_pay119 S)
      = cut I (chain I S 129 (by omega)) := by
  subst hS
  rw [seg15, seg20, seg24, seg25, seg27, seg32, seg36, seg37, seg39, seg44, seg48, seg49, seg51, seg56, seg60, seg61, seg63, seg68, seg72, seg73, seg75, seg80, seg84, seg85, seg87, seg92, seg96, seg97, seg99, seg104, seg108, seg109, seg111, seg116, seg120]
  rfl

/-- One where block `a` comes before block `b`. -/
def ind {n : ℕ} (x : Fin n → EReal) (a b : Fin n) : EReal :=
  if x b < x a ∨ (x a = x b ∧ a < b) then 1 else 0

theorem sgt_at : ∀ (j k : Fin 129), IntOp.cmpi .sgt (BitVec.ofNat 32 j.val) (BitVec.ofNat 32 k.val) = BitVec.ofBool (decide (k < j)) := by
  decide +kernel

theorem pick (p q r : Bool) (x y : EReal) :
    Scalar.select (IntOp.ori (BitVec.ofBool p) (IntOp.andi (BitVec.ofBool q) (BitVec.ofBool r))) x y = if p = true ∨ (q = true ∧ r = true) then x else y := by
  cases p <;> cases q <;> cases r <;> rfl

theorem step_at (I : IVec S8x256 32) (S : FVec Ideal S8x256 .f32) (k : ℕ) (h : k < 129) (acc : FVec Ideal S8x256 .f32) (i : Fin 8) (j : Fin 129)
    (hI : I (ix2 i ⟨j.val, by omega⟩) = BitVec.ofNat 32 j.val) :
    step I S k h acc (ix2 i ⟨j.val, by omega⟩) = acc (ix2 i ⟨j.val, by omega⟩) + ind (fun m : Fin 129 => S (ix2 i ⟨m.val, by omega⟩)) ⟨k, h⟩ j := by
  unfold step
  pointwise
  rw [hI, sgt_at j ⟨k, h⟩, pick]
  simp only [ind, decide_eq_true_eq]

theorem chain_at (I : IVec S8x256 32) (S : FVec Ideal S8x256 .f32) (i : Fin 8) (j : Fin 129)
    (hI : I (ix2 i ⟨j.val, by omega⟩) = BitVec.ofNat 32 j.val) : ∀ (n : ℕ) (h : n ≤ 129),
    chain I S n h (ix2 i ⟨j.val, by omega⟩) = ∑ k : Fin n, ind (fun m : Fin 129 => S (ix2 i ⟨m.val, by omega⟩)) ⟨k.val, by omega⟩ j
  | 0, _ => by
    unfold chain
    pointwise
    simp
  | n + 1, h => by
    unfold chain
    rw [step_at I S n h _ i j hI, chain_at I S i j hI n, Fin.sum_univ_castSucc]
    rfl

theorem sixteen : Ideal.ofBits .f32 0x41800000#32 = ((16 : ℝ) : EReal) := by
  simp [Ideal.ofBits, Ideal.ieee, -EReal.coe_mul]
  norm_num

theorem lane_bits : ∀ j : Fin 256, IntOp.cmpi .slt (BitVec.ofNat 32 j.val) 129#32 = BitVec.ofBool (decide (j.val < 129)) := by
  decide +kernel

theorem pick2 (p q : Bool) (x y : EReal) :
    Scalar.select (IntOp.andi (BitVec.ofBool p) (BitVec.ofBool q)) x y = if p = true ∧ q = true then x else y := by
  cases p <;> cases q <;> rfl

/-- The blocks of rank below sixteen are kept. -/
theorem kept_at (I : IVec S8x256 32) (S : FVec Ideal S8x256 .f32) (i : Fin 8) (j : Fin 256) (hI : I (ix2 i j) = BitVec.ofNat 32 j.val) :
    cut I (chain I S 129 (le_refl _)) (ix2 i j)
      = if h : j.val < 129 then (if SelTop.rank (fun m : Fin 129 => S (ix2 i ⟨m.val, by omega⟩)) ⟨j.val, h⟩ < 16 then 1 else 0) else 0 := by
  unfold cut
  pointwise
  rw [hI, lane_bits, pick2, sixteen]
  by_cases h : j.val < 129
  · rw [dif_pos h, chain_at I S i ⟨j.val, h⟩ hI]
    rw [show (∑ k : Fin 129, ind (fun m : Fin 129 => S (ix2 i ⟨m.val, by omega⟩)) ⟨k.val, by omega⟩ ⟨j.val, h⟩) = _ from
      SelTop.sum_rank (fun m : Fin 129 => S (ix2 i ⟨m.val, by omega⟩)) ⟨j.val, h⟩ (fun a => ind (fun m : Fin 129 => S (ix2 i ⟨m.val, by omega⟩)) a ⟨j.val, h⟩)
        (fun a ha => if_pos ha) (fun a ha => if_neg ha)]
    simp only [decide_eq_true_eq, h, and_true, EReal.coe_lt_coe_iff]
    norm_cast
  · rw [dif_neg h]
    simp [h]

end Cert.SelRank

end
-- ==== Proof.SelVal.lean ====
/-
  What the attention's three result arrays hold: at every index the values the reference computes.
-/
module

public import proofs.«01_k».proof.Proof.SelRead
public import proofs.«01_k».proof.Proof.SelRank

@[expose] public section

set_option maxRecDepth 16384

noncomputable section

open Idealize.ShloMosaic Idealize.ShloMosaic.TcCoe Idealize.SL.Sem
open Idealize.ShloMosaic.Pipeline (Dat)

namespace Cert.SelVal

open Cert.SelMath Cert.SelPay
open Cert.KernelIdeal Cert.KernelIdeal.Gen Cert.SelRead

/-- A dot product whose left side is zero outside one half runs over that half. -/
theorem half (a : Fin 64 → EReal) (K : Fin 128 → EReal) (g : Fin 2) :
    ∑ d : Fin 128, (if d.val / 64 = g.val then a ⟨d.val % 64, by omega⟩ else 0) * K d = ∑ x : Fin 64, K ⟨g.val * 64 + x.val, by omega⟩ * a x := by
  refine (Fin.sum_univ_add (a := 64) (b := 64) _).trans ?_
  have hl : ∀ x : Fin 64, x.val / 64 = 0 ∧ x.val % 64 = x.val := fun x => by omega
  have hr : ∀ x : Fin 64, (64 + x.val) / 64 = 1 ∧ (64 + x.val) % 64 = x.val := fun x => by omega
  fin_cases g
  · simp [hl, hr, mul_comm]
    rfl
  · simp [hl, hr, mul_comm]
    rfl

variable (m : (ℓ : Loc nD τ sig) → Buf (Elt Ideal) ℓ) (c : Dev nD) (t : Fin cfg0.N)

theorem lg_at {k : ℕ} (y : Fin 32) (K : Fin k → Fin 128 → EReal) (B : Fin k → EReal) (n : Fin k) :
    lg (fun d => (show FVec Ideal S1x32x128 .bf16 from iblk m c 0 t) (ix3 0 y d)) K B n
      = (∑ x : Fin 64, K n ⟨y.val / 4 % 2 * 64 + x.val, by omega⟩ * ar0 m c (ix2 ⟨(seq t).val * 4 + y.val % 4, by omega⟩ ⟨y.val / 8 * 128 + y.val / 4 % 2 * 64 + x.val, by omega⟩)) * sc
        + B n := by
  unfold lg
  congr 2
  refine Eq.trans (Finset.sum_congr rfl fun d _ => ?_)
    (half (fun x => ar0 m c (ix2 ⟨(seq t).val * 4 + y.val % 4, by omega⟩ ⟨y.val / 8 * 128 + y.val / 4 % 2 * 64 + x.val, by omega⟩)) (K n) ⟨y.val / 4 % 2, by omega⟩)
  refine congrArg (fun a : EReal => a * K n d) (((b0 m c t y d).trans (v13_at m c (seq t) y d)).trans ?_)
  refine congrArg (fun k : Fin 512 => if d.val / 64 = y.val / 4 % 2 then ar0 m c (ix2 ⟨(seq t).val * 4 + y.val % 4, by omega⟩ k) else 0) ?_
  exact Fin.ext (by simp only []; omega)

theorem bias_row (y : Fin 32) : (⟨y.val / 8 * 8 + y.val / 4 % 2 * 4 + y.val % 4, by omega⟩ : Fin 32) = y := Fin.ext (by simp only []; omega)

/-- A compressed logit of a step is the reference's. -/
theorem logC (y : Fin 32) (n : Fin 511) :
    lg (fun d => (show FVec Ideal S1x32x128 .bf16 from iblk m c 0 t) (ix3 0 y d)) (fun n d => (show FVec Ideal S1x512x128 .f32 from iblk m c 1 t) (ix3 0 n d))
      (fun n => (show FVec Ideal S32x512 .f32 from iblk m c 7 t) (ix2 y n)) (Fin.castSucc n)
      = SelRef.lC (ar0 m c) (ar1 m c) (ar7 m c) (seq t) ⟨y.val / 8, by omega⟩ ⟨y.val / 4 % 2, by omega⟩ ⟨y.val % 4, by omega⟩ n := by
  refine (lg_at m c t y _ _ _).trans ?_
  unfold SelRef.lC
  simp only [b1, b7, bias_row]
  rfl

/-- The weights of the compressed branch of a step. -/
abbrev wC (y : Fin 32) (x : Fin 512) : EReal :=
  (k0_pay7 (F := Ideal)
      (k0_pay144 (iblk m c 0 t) (iblk m c 1 t) (iblk m c 2 t) (iblk m c 3 t) (iblk m c 4 t) (iblk m c 5 t) (iblk m c 6 t) (iblk m c 7 t) (iblk m c 8 t) (iblk m c 9 t) (iblk m c 10 t))
      (k0_pay145 (iblk m c 0 t) (iblk m c 1 t) (iblk m c 2 t) (iblk m c 3 t) (iblk m c 4 t) (iblk m c 5 t) (iblk m c 6 t) (iblk m c 7 t) (iblk m c 8 t) (iblk m c 9 t) (iblk m c 10 t))
      (k0_pay146 (iblk m c 0 t) (iblk m c 1 t) (iblk m c 2 t) (iblk m c 3 t) (iblk m c 4 t) (iblk m c 5 t) (iblk m c 6 t) (iblk m c 7 t) (iblk m c 8 t) (iblk m c 9 t) (iblk m c 10 t))
      (k0_pay147 (iblk m c 0 t) (iblk m c 1 t) (iblk m c 2 t) (iblk m c 3 t) (iblk m c 4 t) (iblk m c 5 t) (iblk m c 6 t) (iblk m c 7 t) (iblk m c 8 t) (iblk m c 9 t) (iblk m c 10 t))
      : FVec Ideal S32x512 .f32) (ix2 y x)

/-- The logits of the compressed branch, from a step's blocks. -/
abbrev lB (y : Fin 32) : Fin 512 → EReal :=
  lg (fun d => (show FVec Ideal S1x32x128 .bf16 from iblk m c 0 t) (ix3 0 y d)) (fun n d => (show FVec Ideal S1x512x128 .f32 from iblk m c 1 t) (ix3 0 n d))
    (fun n => (show FVec Ideal S32x512 .f32 from iblk m c 7 t) (ix2 y n))

theorem wC_at (y : Fin 32) (x : Fin 512) : wC m c t y x = Soft.prob mC (cover mC (lB m c t y)) (top (cover mC (lB m c t y))) x := by
  unfold wC k0_pay144 k0_pay145 k0_pay146 k0_pay147
  repeat rw [View.ld_unit_lit _ _ (by decide)]
  exact pay7_at _ _ _ y x

theorem mC_cast (i : Fin 511) : mC (Fin.castSucc i) = true := decide_eq_true (by show i.val < 511; omega)

theorem mC_last : mC (Fin.last 511) = false := decide_eq_false (by show ¬ (511 : ℕ) < 511; omega)

/-- The reference's logits. -/
abbrev lR (y : Fin 32) : Fin 511 → EReal :=
  SelRef.lC (ar0 m c) (ar1 m c) (ar7 m c) (seq t) ⟨y.val / 8, by omega⟩ ⟨y.val / 4 % 2, by omega⟩ ⟨y.val % 4, by omega⟩

theorem final11 : (dats m 0 c).arrAt 11 cfg0.N = SelRef.resC (ar0 m c) (ar1 m c) (ar2 m c) (ar7 m c) := by
  refine (dats m 0 c).arrAt_eq_of_covers 11 _ (by decide +kernel) fun t hf y => ?_
  blk_simp
  rw [after0_11]
  frame_out
  idx_vars y
  obtain rfl : y0 = 0 := Fin.eq_zero y0
  rw [emb11]
  refine (pay8_at _ _ _ _ _ y1 y2).trans (Eq.trans ?_ (SelRef.resC_at (ar0 m c) (ar1 m c) (ar2 m c) (ar7 m c) (seq t) y1 y2).symm)
  refine (Finset.sum_congr rfl fun x _ => congrArg₂ (fun a b : EReal => a * b) (wC_at m c t y1 x) (b2 m c t x y2)).trans ?_
  exact sum_last mC (lB m c t y1) (lR m c t y1) mC_cast mC_last (logC m c t y1) (fun x : Fin 512 => ar2 m c (ix3 (seq t) x y2))

/-- A logit of the window's stored part is the reference's. -/
theorem logW1 (y : Fin 32) (n : Fin 512) :
    SelRef.lW (ar0 m c) (ar3 m c) (ar5 m c) (ar8 m c) (ar9 m c) (seq t) ⟨y.val / 8, by omega⟩ ⟨y.val / 4 % 2, by omega⟩ ⟨y.val % 4, by omega⟩ (Fin.castAdd 4 n)
      = lg (fun d => (show FVec Ideal S1x32x128 .bf16 from iblk m c 0 t) (ix3 0 y d)) (fun n d => (show FVec Ideal S1x512x128 .f32 from iblk m c 3 t) (ix3 0 n d))
          (fun n => (show FVec Ideal S32x512 .f32 from iblk m c 8 t) (ix2 y n)) n := by
  refine Eq.trans ?_ (lg_at m c t y _ _ _).symm
  unfold SelRef.lW
  have h : (Fin.castAdd 4 n).val < 512 := n.isLt
  simp only [dif_pos h, b3, b8, bias_row]
  rfl

/-- A logit of the window's new part is the reference's. -/
theorem logW2 (y : Fin 32) (n : Fin 4) :
    SelRef.lW (ar0 m c) (ar3 m c) (ar5 m c) (ar8 m c) (ar9 m c) (seq t) ⟨y.val / 8, by omega⟩ ⟨y.val / 4 % 2, by omega⟩ ⟨y.val % 4, by omega⟩ (Fin.natAdd 512 n)
      = lg (fun d => (show FVec Ideal S1x32x128 .bf16 from iblk m c 0 t) (ix3 0 y d)) (fun n d => (show FVec Ideal S1x128x128 .f32 from iblk m c 5 t) (ix3 0 n d))
          (fun n => (show FVec Ideal S32x128 .f32 from iblk m c 9 t) (ix2 y n)) (Fin.castAdd 124 n) := by
  refine Eq.trans ?_ (lg_at m c t y _ _ _).symm
  unfold SelRef.lW
  have h : ¬ (Fin.natAdd 512 n).val < 512 := Nat.not_lt.mpr (Nat.le_add_right _ _)
  have e : (Fin.natAdd 512 n).val - 512 = n.val := Nat.add_sub_cancel_left _ _
  have k : ∀ x : Fin 128, (show FVec Ideal S1x128x128 .f32 from iblk m c 5 t) (ix3 0 (Fin.castAdd 124 n : Fin 128) x) = ar5 m c (ix2 ⟨(seq t).val * 4 + n.val, by omega⟩ x) :=
    fun x => (b5 m c t _ x).trans (v15_at m c (seq t) n x)
  simp only [dif_neg h, k, b9, bias_row, e]
  rfl

theorem valW1 (h : Fin 128) (n : Fin 512) : SelRef.vW (ar4 m c) (ar6 m c) (seq t) h (Fin.castAdd 4 n)
    = (show FVec Ideal S1x512x128 .f32 from iblk m c 4 t) (ix3 0 n h) := by
  unfold SelRef.vW
  have e : (Fin.castAdd 4 n).val < 512 := n.isLt
  rw [dif_pos e, b4]
  rfl

theorem valW2 (h : Fin 128) (n : Fin 4) : SelRef.vW (ar4 m c) (ar6 m c) (seq t) h (Fin.natAdd 512 n)
    = (show FVec Ideal S1x128x128 .f32 from iblk m c 6 t) (ix3 0 (Fin.castAdd 124 n : Fin 128) h) := by
  unfold SelRef.vW
  have e : ¬ (Fin.natAdd 512 n).val < 512 := Nat.not_lt.mpr (Nat.le_add_right _ _)
  have e' : (Fin.natAdd 512 n).val - 512 = n.val := Nat.add_sub_cancel_left _ _
  rw [dif_neg e]
  refine Eq.trans ?_ ((b6 m c t _ h).trans (v17_at m c (seq t) n h)).symm
  simp only [e']

theorem mF_left (y : Fin 32) (n : Fin 512) : SelRef.mF ⟨y.val % 4, by omega⟩ (Fin.castAdd 4 n) = mW y n := by
  unfold SelRef.mF mW
  refine decide_eq_decide.mpr ?_
  show y.val % 4 < n.val ∧ n.val ≤ 512 + y.val % 4 ↔ y.val % 4 < n.val
  omega

theorem mF_right (y : Fin 32) (n : Fin 4) : SelRef.mF ⟨y.val % 4, by omega⟩ (Fin.natAdd 512 n) = mN y (Fin.castAdd 124 n) := by
  unfold SelRef.mF mN
  refine decide_eq_decide.mpr ?_
  show y.val % 4 < 512 + n.val ∧ 512 + n.val ≤ 512 + y.val % 4 ↔ n.val ≤ y.val % 4
  omega

theorem mN_pad (y : Fin 32) (i : Fin 124) : mN y (Fin.natAdd 4 i) = false := by
  unfold mN
  refine decide_eq_false ?_
  show ¬ 4 + i.val ≤ y.val % 4
  omega

theorem final12 : (dats m 0 c).arrAt 12 cfg0.N = SelRef.resW (ar0 m c) (ar3 m c) (ar4 m c) (ar5 m c) (ar6 m c) (ar8 m c) (ar9 m c) := by
  refine (dats m 0 c).arrAt_eq_of_covers 12 _ (by decide +kernel) fun t hf y => ?_
  blk_simp
  rw [after0_12]
  frame_out
  idx_vars y
  obtain rfl : y0 = 0 := Fin.eq_zero y0
  rw [emb12]
  unfold k0_pay155 k0_pay154 k0_pay156 k0_pay157 k0_pay158 k0_pay159 k0_pay143
  repeat rw [View.ld_unit_lit _ _ (by decide)]
  refine (win_at _ _ _ _ _ _ _ y1 y2).trans ?_
  refine Eq.trans ?_ (SelRef.resW_at (ar0 m c) (ar3 m c) (ar4 m c) (ar5 m c) (ar6 m c) (ar8 m c) (ar9 m c) (seq t) y1 y2).symm
  exact two (a := 512) (b := 4) (c := 124) (mW y1) (mN y1) (SelRef.mF ⟨y1.val % 4, by omega⟩) _ _ _
    (mF_left y1) (mF_right y1) (mN_pad y1) (logW1 m c t y1) (logW2 m c t y1) _ _ _ (valW1 m c t y2) (valW2 m c t y2) _ _ rfl rfl _

/-- The rows of one key head and query, over the heads. -/
theorem row_eq (r : Fin 4) (y : Fin 8) : lR m c t ⟨r.val * 8 + y.val, by omega⟩
    = SelRef.lC (ar0 m c) (ar1 m c) (ar7 m c) (seq t) r ⟨y.val / 4, by omega⟩ ⟨y.val % 4, by omega⟩ := by
  unfold lR
  have h1 : (⟨(r.val * 8 + y.val) / 8, by omega⟩ : Fin 4) = r := Fin.ext (by simp only []; omega)
  have h2 : (⟨(r.val * 8 + y.val) / 4 % 2, by omega⟩ : Fin 2) = ⟨y.val / 4, by omega⟩ := Fin.ext (by simp only []; omega)
  have h3 : (⟨(r.val * 8 + y.val) % 4, by omega⟩ : Fin 4) = ⟨y.val % 4, by omega⟩ := Fin.ext (by simp only []; omega)
  simp only [h1, h2, h3]

theorem wC_cast (y : Fin 32) (x : Fin 511) : wC m c t y (Fin.castSucc x) = Soft.prob (fun _ => true) (lR m c t y) (top (lR m c t y)) x :=
  (wC_at m c t y _).trans (prob_cast mC (lB m c t y) (lR m c t y) mC_cast mC_last (logC m c t y) x)

theorem wC_last (y : Fin 32) : wC m c t y (Fin.last 511) = 0 :=
  (wC_at m c t y _).trans (prob_last mC (lB m c t y) (lR m c t y) mC_cast mC_last (logC m c t y))

theorem wC_real (y : Fin 32) (x : Fin 512) : ∃ r : ℝ, wC m c t y x = r := by
  obtain ⟨r, _, h⟩ := Soft.prob_real mC (le_top (cover mC (lB m c t y))) x
  exact ⟨r, (wC_at m c t y x).trans h⟩

/-- The four weights of a step that meet in one score. -/
def four (y : Fin 8) (x : Fin 512) : EReal :=
  wC m c t ⟨y.val, by omega⟩ x + wC m c t ⟨8 + y.val, by omega⟩ x + wC m c t ⟨16 + y.val, by omega⟩ x + wC m c t ⟨24 + y.val, by omega⟩ x

theorem four_self (y : Fin 8) (x : Fin 512) : four m c t y x - four m c t y x = 0 := by
  unfold four
  obtain ⟨r0, h0⟩ := wC_real m c t ⟨y.val, by omega⟩ x
  obtain ⟨r1, h1⟩ := wC_real m c t ⟨8 + y.val, by omega⟩ x
  obtain ⟨r2, h2⟩ := wC_real m c t ⟨16 + y.val, by omega⟩ x
  obtain ⟨r3, h3⟩ := wC_real m c t ⟨24 + y.val, by omega⟩ x
  rw [h0, h1, h2, h3, ← EReal.coe_add, ← EReal.coe_add, ← EReal.coe_add, ← EReal.coe_sub, sub_self]
  rfl

theorem four_last (y : Fin 8) : four m c t y (Fin.last 511) = 0 := by
  unfold four
  rw [wC_last, wC_last, wC_last, wC_last]
  simp

theorem four_cast (y : Fin 8) (x : Fin 511) : four m c t y (Fin.castSucc x)
    = ∑ r : Fin 4, Soft.prob (fun _ => true) (SelRef.lC (ar0 m c) (ar1 m c) (ar7 m c) (seq t) r ⟨y.val / 4, by omega⟩ ⟨y.val % 4, by omega⟩)
        (top (SelRef.lC (ar0 m c) (ar1 m c) (ar7 m c) (seq t) r ⟨y.val / 4, by omega⟩ ⟨y.val % 4, by omega⟩)) x := by
  rw [Fin.sum_univ_four]
  unfold four
  rw [wC_cast, wC_cast, wC_cast, wC_cast]
  have e0 : lR m c t ⟨y.val, by omega⟩ = _ := (congrArg (lR m c t) (Fin.ext (by show y.val = 0 * 8 + y.val; omega))).trans (row_eq m c t 0 y)
  have e1 : lR m c t ⟨8 + y.val, by omega⟩ = _ := (congrArg (lR m c t) (Fin.ext (by show 8 + y.val = 1 * 8 + y.val; omega))).trans (row_eq m c t 1 y)
  have e2 : lR m c t ⟨16 + y.val, by omega⟩ = _ := (congrArg (lR m c t) (Fin.ext (by show 16 + y.val = 2 * 8 + y.val; omega))).trans (row_eq m c t 2 y)
  have e3 : lR m c t ⟨24 + y.val, by omega⟩ = _ := (congrArg (lR m c t) (Fin.ext (by show 24 + y.val = 3 * 8 + y.val; omega))).trans (row_eq m c t 3 y)
  rw [e0, e1, e2, e3]

/-- The raw score of a block. -/
theorem raw_at (y : Fin 8) (n : Fin 256) :
    (k0_pay149 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) : FVec Ideal S8x256 .f32) (ix2 y n)
      = ∑ x : Fin 511, (∑ r : Fin 4, Soft.prob (fun _ => true) (SelRef.lC (ar0 m c) (ar1 m c) (ar7 m c) (seq t) r ⟨y.val / 4, by omega⟩ ⟨y.val % 4, by omega⟩)
        (top (SelRef.lC (ar0 m c) (ar1 m c) (ar7 m c) (seq t) r ⟨y.val / 4, by omega⟩ ⟨y.val % 4, by omega⟩)) x) * ar10 m c (ix2 ⟨x.val, by omega⟩ n) := by
  unfold k0_pay149
  repeat rw [View.ld_unit_lit _ _ (by decide)]
  refine (pay9_at _ _ _ _ _ _ y n).trans ?_
  have h2 : ∑ x : Fin 512, (four m c t y x - four m c t y x) * (show FVec Ideal S512x256 .bf16 from iblk m c 10 t) (ix2 x n) = 0 :=
    Finset.sum_eq_zero fun x _ => by rw [four_self, zero_mul]
  refine (congrArg (fun z : EReal => (∑ x : Fin 512, four m c t y x * (show FVec Ideal S512x256 .bf16 from iblk m c 10 t) (ix2 x n)) + z) h2).trans ?_
  simp only [add_zero]
  refine (Fin.sum_univ_castSucc (n := 511) _).trans ?_
  simp only [four_last, zero_mul, add_zero, four_cast, b10]
  rfl

/-- The score of a block, as the ranking takes it. -/
theorem score_eq (y : Fin 8) (n : Fin 129) :
    (k0_pay153 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) : FVec Ideal S8x256 .f32) (ix2 y ⟨n.val, by omega⟩)
      = SelRef.score (ar0 m c) (ar1 m c) (ar7 m c) (ar10 m c) (ix4 (seq t) ⟨y.val / 4, by omega⟩ ⟨y.val % 4, by omega⟩ n) := by
  refine (pay14_at _ y n).trans (Eq.trans ?_ (SelRef.score_at (ar0 m c) (ar1 m c) (ar7 m c) (ar10 m c) (seq t) ⟨y.val / 4, by omega⟩ ⟨y.val % 4, by omega⟩ n).symm)
  rw [raw_at]

theorem pay121_at (W : FVec Ideal S8x256 .f32) (y : Fin 8) (n : Fin 256) : (k0_pay121 (F := Ideal) W : FVec Ideal S1x8x256 .f32) (ix3 0 y n) = W (ix2 y n) := by
  unfold k0_pay121
  pointwise

theorem lane_at (y : Fin 8) (n : Fin 256) : (k0_pay148 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2 y n) = BitVec.ofNat 32 n.val := by
  unfold k0_pay148
  pointwise

theorem final13 : (dats m 0 c).arrAt 13 cfg0.N = SelRef.resS (ar0 m c) (ar1 m c) (ar7 m c) (ar10 m c) := by
  refine (dats m 0 c).arrAt_eq_of_covers 13 _ (by decide +kernel) fun t hf y => ?_
  blk_simp
  rw [after0_13]
  frame_out
  idx_vars y
  obtain rfl : y0 = 0 := Fin.eq_zero y0
  rw [emb13]
  refine (pay121_at _ y1 y2).trans ?_
  refine (congrFun (SelRank.tower _ _ _ _ _ _ rfl) (ix2 y1 y2)).trans ?_
  refine (SelRank.kept_at _ _ y1 y2 (lane_at m c t y1 y2)).trans ?_
  refine Eq.trans ?_ (SelRef.resS_at (ar0 m c) (ar1 m c) (ar7 m c) (ar10 m c) (seq t) y1 y2).symm
  have e : (fun n : Fin 129 => (k0_pay153 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) : FVec Ideal S8x256 .f32) (ix2 y1 ⟨n.val, by omega⟩))
      = fun n : Fin 129 => SelRef.score (ar0 m c) (ar1 m c) (ar7 m c) (ar10 m c) (ix4 (seq t) ⟨y1.val / 4, by omega⟩ ⟨y1.val % 4, by omega⟩ n) :=
    funext fun n => score_eq m c t y1 n
  exact congrArg (fun f : Fin 129 → EReal => if h : y2.val < 129 then (if SelTop.rank f ⟨y2.val, h⟩ < 16 then (1 : EReal) else 0) else 0) e

end Cert.SelVal

end
-- ==== Proof.SelLink.lean ====
/-
  The reference's run, stage by stage: what it computes is what the plain stages say.
-/
module

public import proofs.«01_k».proof.Proof.SelRef
public import proofs.«01_k».proof.Proof.Gen.ReferenceIdeal.Run

@[expose] public section

set_option maxRecDepth 16384

noncomputable section

open Idealize.ShloMosaic Idealize.ShloMosaic.TcCoe Idealize.SL.Sem

namespace Cert.SelLink

open Cert.SelRef
open Cert.ReferenceIdeal Cert.ReferenceIdeal.Gen Cert.ReferenceIdeal.Value

variable (V0 : Valuation τ sig (Elt Ideal))

theorem qf_run : res_main_v1 V0 = qf (V0 (Proc.devRef .tc main_arg0)) := by
  unfold res_main_v1 qf
  try rfl

theorem pos_run : res_main_v4 V0 = pos := by
  unfold res_main_v4 pos
  try rfl

theorem maskC_run : res_main_v29 V0 = maskC := by
  unfold res_main_v29 maskC
  rw [pos_run]
  try rfl

theorem logC_run : res_main_v30 V0 = logC (V0 (Proc.devRef .tc main_arg0)) (V0 (Proc.devRef .tc main_arg1)) (V0 (Proc.devRef .tc main_arg7)) := by
  unfold res_main_v30 logC
  rw [maskC_run, qf_run]
  try rfl

theorem numC_run : res_main_v36 V0 = numC (V0 (Proc.devRef .tc main_arg0)) (V0 (Proc.devRef .tc main_arg1)) (V0 (Proc.devRef .tc main_arg7)) := by
  unfold res_main_v36 numC
  rw [maskC_run, logC_run]
  try rfl

theorem sumC_run : res_main_v38 V0 = sumC (V0 (Proc.devRef .tc main_arg0)) (V0 (Proc.devRef .tc main_arg1)) (V0 (Proc.devRef .tc main_arg7)) := by
  unfold res_main_v38 sumC
  rw [numC_run]
  try rfl

theorem probC_run : res_main_v43 V0 = probC (V0 (Proc.devRef .tc main_arg0)) (V0 (Proc.devRef .tc main_arg1)) (V0 (Proc.devRef .tc main_arg7)) := by
  unfold res_main_v43 probC
  rw [numC_run, sumC_run]
  try rfl

theorem blkI_run : res_main_v50 V0 = blkI := by
  unfold res_main_v50 blkI
  try rfl

theorem c64_run : res_main_call3_v0 V0 = c64 := by
  unfold res_main_call3_v0 c64
  try rfl

theorem quot_run : res_main_call3_v2 V0 = quot := by
  unfold res_main_call3_v2 quot
  rw [pos_run, c64_run]
  try rfl

theorem curI_run : res_main_v52 V0 = curI := by
  unfold res_main_v52 curI
  rw [pos_run, c64_run, quot_run]
  try rfl

theorem score_run : res_main_v73 V0 = score (V0 (Proc.devRef .tc main_arg0)) (V0 (Proc.devRef .tc main_arg1)) (V0 (Proc.devRef .tc main_arg7)) (V0 (Proc.devRef .tc main_arg10)) := by
  unfold res_main_v73 score
  rw [blkI_run, curI_run, pos_run, probC_run]
  try rfl

theorem posW_run : res_main_v90 V0 = posW := by
  unfold res_main_v90 posW
  try rfl

theorem distW_run : res_main_v95 V0 = distW := by
  unfold res_main_v95 distW
  rw [pos_run, posW_run]
  try rfl

theorem maskW_run : res_main_v105 V0 = maskW := by
  unfold res_main_v105 maskW
  rw [distW_run, posW_run]
  try rfl

theorem logW_run : res_main_v116 V0 = logW (V0 (Proc.devRef .tc main_arg0)) (V0 (Proc.devRef .tc main_arg3)) (V0 (Proc.devRef .tc main_arg5)) (V0 (Proc.devRef .tc main_arg8)) (V0 (Proc.devRef .tc main_arg9)) := by
  unfold res_main_v116 logW
  rw [maskW_run, qf_run]
  try rfl

theorem numW_run : res_main_v122 V0 = numW (V0 (Proc.devRef .tc main_arg0)) (V0 (Proc.devRef .tc main_arg3)) (V0 (Proc.devRef .tc main_arg5)) (V0 (Proc.devRef .tc main_arg8)) (V0 (Proc.devRef .tc main_arg9)) := by
  unfold res_main_v122 numW
  rw [maskW_run, logW_run]
  try rfl

theorem sumW_run : res_main_v124 V0 = sumW (V0 (Proc.devRef .tc main_arg0)) (V0 (Proc.devRef .tc main_arg3)) (V0 (Proc.devRef .tc main_arg5)) (V0 (Proc.devRef .tc main_arg8)) (V0 (Proc.devRef .tc main_arg9)) := by
  unfold res_main_v124 sumW
  rw [numW_run]
  try rfl

end Cert.SelLink

end
-- ==== Proof.SelClaim.lean ====
/-
  The equation of the attention and its reference: both end with the same three arrays.
-/
module

public import proofs.«01_k».proof.Defs
public import proofs.«01_k».proof.Proof.SelVal
public import proofs.«01_k».proof.Proof.SelLink
public import proofs.«01_k».proof.Proof.Gen.KernelIdeal.Value
public import proofs.«01_k».proof.Proof.Gen.ReferenceIdeal.Run
public import Idealize.ShloMosaic.Lib.Claim

@[expose] public section

set_option maxRecDepth 16384
set_option maxHeartbeats 2000000

noncomputable section

open Idealize.ShloMosaic Idealize.SL.Sem Idealize.ShloMosaic.StableHlo

namespace Cert.SelClaim

theorem algebraic1 : algebraic_KernelIdeal_ReferenceIdeal (hKernelIdeal := Cert.KernelIdeal.Gen.facts)
    (hReferenceIdeal := Cert.ReferenceIdeal.Gen.facts) := by
  pair_intro
  · run_from Cert.KernelIdeal.Value.run_blocks (F := Ideal) m g
  · run_from Cert.ReferenceIdeal.Value.run (F := Ideal) m' g'
    all_goals obtain ⟨h0, h1, h2, h3, h4, h5, h6, h7, h8, h9, h10⟩ := hagree c
    · refine Eq.trans ?_ (SelVal.final11 m c).symm
      have e0 : launchContents m' c (Proc.devRef .tc Cert.ReferenceIdeal.main_arg0) = SelRead.ar0 m c := h0
      have e1 : launchContents m' c (Proc.devRef .tc Cert.ReferenceIdeal.main_arg1) = SelRead.ar1 m c := h1
      have e7 : launchContents m' c (Proc.devRef .tc Cert.ReferenceIdeal.main_arg7) = SelRead.ar7 m c := h7
      rw [SelLink.probC_run, e0, e1, e7]
      rfl
    · refine Eq.trans ?_ (SelVal.final12 m c).symm
      have e0 : launchContents m' c (Proc.devRef .tc Cert.ReferenceIdeal.main_arg0) = SelRead.ar0 m c := h0
      have e3 : launchContents m' c (Proc.devRef .tc Cert.ReferenceIdeal.main_arg3) = SelRead.ar3 m c := h3
      have e5 : launchContents m' c (Proc.devRef .tc Cert.ReferenceIdeal.main_arg5) = SelRead.ar5 m c := h5
      have e8 : launchContents m' c (Proc.devRef .tc Cert.ReferenceIdeal.main_arg8) = SelRead.ar8 m c := h8
      have e9 : launchContents m' c (Proc.devRef .tc Cert.ReferenceIdeal.main_arg9) = SelRead.ar9 m c := h9
      rw [SelLink.numW_run, SelLink.sumW_run, e0, e3, h4, e5, h6, e8, e9]
      rfl
    · refine Eq.trans ?_ (SelVal.final13 m c).symm
      have e0 : launchContents m' c (Proc.devRef .tc Cert.ReferenceIdeal.main_arg0) = SelRead.ar0 m c := h0
      have e1 : launchContents m' c (Proc.devRef .tc Cert.ReferenceIdeal.main_arg1) = SelRead.ar1 m c := h1
      have e7 : launchContents m' c (Proc.devRef .tc Cert.ReferenceIdeal.main_arg7) = SelRead.ar7 m c := h7
      have e10 : launchContents m' c (Proc.devRef .tc Cert.ReferenceIdeal.main_arg10) = SelRead.ar10 m c := h10
      rw [SelLink.score_run, e0, e1, e7, e10]
      rfl

end Cert.SelClaim

end
-- ==== Proof.lean ====
module

public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.CabClaim
public import proofs.«01_k».proof.Proof.FfnClaim
public import proofs.«01_k».proof.Proof.InClaim
public import proofs.«01_k».proof.Proof.SelClaim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_P : quiescent_Kernel (hKernel := Cert.Kernel.Gen.facts) := fun m ρ _ => Cert.Kernel.Gen.frame m ρ

theorem frame_PI : quiescent_KernelIdeal (hKernelIdeal := Cert.KernelIdeal.Gen.facts) := fun m ρ _ => Cert.KernelIdeal.Gen.frame m ρ

theorem frame_RI : quiescent_ReferenceIdeal (hReferenceIdeal := Cert.ReferenceIdeal.Gen.facts) := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

theorem frame_P2 : quiescent_Kernel2 (hKernel2 := Cert.Kernel2.Gen.facts) := fun m ρ _ => Cert.Kernel2.Gen.frame m ρ

theorem frame_PI2 : quiescent_Kernel2Ideal (hKernel2Ideal := Cert.Kernel2Ideal.Gen.facts) := fun m ρ _ => Cert.Kernel2Ideal.Gen.frame m ρ

theorem frame_RI2 : quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frame_P3 : quiescent_Kernel3 (hKernel3 := Cert.Kernel3.Gen.facts) := fun m ρ _ => Cert.Kernel3.Gen.frame m ρ

theorem frame_PI3 : quiescent_Kernel3Ideal (hKernel3Ideal := Cert.Kernel3Ideal.Gen.facts) := fun m ρ _ => Cert.Kernel3Ideal.Gen.frame m ρ

theorem frame_RI3 : quiescent_Reference3Ideal (hReference3Ideal := Cert.Reference3Ideal.Gen.facts) := fun m ρ _ =>
  (θ_run Cert.Reference3Ideal.defs _ _).mono (fun r h => ⟨fun c => (h c).2.2.2.2.2.2.2.2.2.2, Idealize.ShloMosaic.sem_eq_zero_of_no_sems (by decide) r.2⟩)
    (Cert.Reference3Ideal.Value.run (F := Ideal) m ρ)

theorem frame_P4 : quiescent_Kernel4 (hKernel4 := Cert.Kernel4.Gen.facts) := fun m ρ _ => Cert.Kernel4.Gen.frame m ρ

theorem frame_PI4 : quiescent_Kernel4Ideal (hKernel4Ideal := Cert.Kernel4Ideal.Gen.facts) := fun m ρ _ => Cert.Kernel4Ideal.Gen.frame m ρ

theorem frame_RI4 : quiescent_Reference4Ideal (hReference4Ideal := Cert.Reference4Ideal.Gen.facts) := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, by
  refine ⟨frame_P, frame_PI, frame_RI, frame_P2, frame_PI2, frame_RI2, frame_P3, frame_PI3, frame_RI3, frame_P4, frame_PI4, frame_RI4, trivial, SelClaim.algebraic1, trivial, FfnClaim.algebraic2, trivial, InClaim.algebraic3, trivial, CabClaim.algebraic4⟩⟩

end Cert.Proof

end
